-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x16384 : Shape := ⟨3, ![2, 128, 16384]⟩
abbrev S16384x6144 : Shape := ⟨2, ![16384, 6144]⟩
abbrev S6144 : Shape := ⟨1, ![6144]⟩
abbrev S256x16384 : Shape := ⟨2, ![256, 16384]⟩
abbrev S1x6144 : Shape := ⟨2, ![1, 6144]⟩
abbrev S256x6144 : Shape := ⟨2, ![256, 6144]⟩
abbrev S2x128 : Shape := ⟨2, ![2, 128]⟩
abbrev S16384x512 : Shape := ⟨2, ![16384, 512]⟩
abbrev S1x512 : Shape := ⟨2, ![1, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S128x128 : Shape := ⟨2, ![128, 128]⟩
abbrev S1x128 : Shape := ⟨2, ![1, 128]⟩
abbrev S256x1024 : Shape := ⟨2, ![256, 1024]⟩
abbrev S1024x512 : Shape := ⟨2, ![1024, 512]⟩
abbrev S2x128x6144 : Shape := ⟨3, ![2, 128, 6144]⟩

abbrev nBuf : Space → Nat
  | .hbm => 13
  | .vmem => 16
  | .smem => 0
  | _ => 0

abbrev bufTy : (tb : Table) → Fin (tcTables nBuf tb) → BufTy
  | .hbm, ⟨0, _⟩ => ⟨S2x128x16384, .bf16⟩
  | .hbm, ⟨1, _⟩ => ⟨S16384x6144, .i8⟩
  | .hbm, ⟨2, _⟩ => ⟨S6144, .f32⟩
  | .hbm, ⟨3, _⟩ => ⟨S256x16384, .bf16⟩
  | .hbm, ⟨4, _⟩ => ⟨S1x6144, .f32⟩
  | .hbm, ⟨5, _⟩ => ⟨S256x6144, .bf16⟩
  | .hbm, ⟨6, _⟩ => ⟨S256x16384, .i8⟩
  | .hbm, ⟨7, _⟩ => ⟨S2x128, .f32⟩
  | .hbm, ⟨8, _⟩ => ⟨S256x6144, .i8⟩
  | .hbm, ⟨9, _⟩ => ⟨S2x128, .f32⟩
  | .hbm, ⟨10, _⟩ => ⟨S2x128x6144, .bf16⟩
  | .hbm, ⟨11, _⟩ => ⟨S2x128x16384, .i8⟩
  | .hbm, ⟨12, _⟩ => ⟨S2x128x6144, .i8⟩
  | .local _ .vmem, ⟨0, _⟩ => ⟨S256x16384, .bf16⟩
  | .local _ .vmem, ⟨1, _⟩ => ⟨S16384x512, .i8⟩
  | .local _ .vmem, ⟨2, _⟩ => ⟨S16384x512, .i8⟩
  | .local _ .vmem, ⟨3, _⟩ => ⟨S1x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S256x16384, .i8⟩
  | .local _ .vmem, ⟨8, _⟩ => ⟨S2x128, .f32⟩
  | .local _ .vmem, ⟨9, _⟩ => ⟨S256x6144, .i8⟩
  | .local _ .vmem, ⟨10, _⟩ => ⟨S2x128, .f32⟩
  | .local _ .vmem, ⟨11, _⟩ => ⟨S256x16384, .bf16⟩
  | .local _ .vmem, ⟨12, _⟩ => ⟨S256x128, .f32⟩
  | .local _ .vmem, ⟨13, _⟩ => ⟨S256x512, .i32⟩
  | .local _ .vmem, ⟨14, _⟩ => ⟨S256x6144, .f32⟩
  | .local _ .vmem, ⟨15, _⟩ => ⟨S256x128, .f32⟩
  | _, _ => ⟨S2x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_302 : BitVec 32 := 0#32
  let c16_i32 : BitVec 32 := 16#32
  let v762 : BitVec 32 := Scalar.addi c0_i32_302 c16_i32
  let c1_i32 : BitVec 32 := 1#32
  ⟨c0_i32_302, v762, c1_i32⟩
def k0_mult1 (k0_t1 : Fin k0_t1_loop.trips) : BitVec 32 :=
  let c0_i32_302 : BitVec 32 := 0#32
  let c1_i32 : BitVec 32 := 1#32
  let arg14 : BitVec 32 := Scf.iv c0_i32_302 c1_i32 k0_t1
  let c1024_i32 : BitVec 32 := 1024#32
  let v763 : BitVec 32 := Scalar.muli arg14 c1024_i32
  v763
def k0_off1 (k0_t1 : Fin k0_t1_loop.trips) : Fin 2 → Nat :=
  let c0_304 : Index := 0#32
  let c0_i32_302 : BitVec 32 := 0#32
  let c1_i32 : BitVec 32 := 1#32
  let arg14 : BitVec 32 := Scf.iv c0_i32_302 c1_i32 k0_t1
  let c1024_i32 : BitVec 32 := 1024#32
  let v763 : BitVec 32 := Scalar.muli arg14 c1024_i32
  let v764 : BitVec 32 := v763
  let v765 : Index := Scalar.indexCast v764
  ![0, v765.toNat]
def k0_mult2 (i : grid0.Coords) : BitVec 32 :=
  let arg0 : BitVec 32 := BitVec.ofNat 32 (i 0).val
  let c512_i32 : BitVec 32 := 512#32
  let v194 : BitVec 32 := Scalar.muli arg0 c512_i32
  v194
def k0_off2 (i : grid0.Coords) : Fin 2 → Nat :=
  let c0_139 : Index := 0#32
  let arg0 : BitVec 32 := BitVec.ofNat 32 (i 0).val
  let c512_i32 : BitVec 32 := 512#32
  let v194 : BitVec 32 := Scalar.muli arg0 c512_i32
  let v195 : BitVec 32 := v194
  let v196 : Index := Scalar.indexCast v195
  ![0, v196.toNat]
def k0_cond2 (i : grid0.Coords) : BitVec 1 :=
  let arg0 : BitVec 32 := BitVec.ofNat 32 (i 0).val
  let c11_i32 : BitVec 32 := 11#32
  let v216 : BitVec 1 := Scalar.cmpi .eq arg0 c11_i32
  let v217 : BitVec 32 := Scalar.extui v216
  let c0_i32_144 : BitVec 32 := 0#32
  let v218 : BitVec 1 := Scalar.cmpi .ne v217 c0_i32_144
  v218

@[reducible] def k0_t2_loop : Scf.Loop 32 :=
  let c0_i32_156 : BitVec 32 := 0#32
  let c6_i32 : BitVec 32 := 6#32
  let v245 : BitVec 32 := Scalar.addi c0_i32_156 c6_i32
  let c1_i32 : BitVec 32 := 1#32
  ⟨c0_i32_156, v245, c1_i32⟩
def k0_mult3 (k0_t2 : Fin k0_t2_loop.trips) : BitVec 32 :=
  let c0_i32_156 : BitVec 32 := 0#32
  let c1_i32 : BitVec 32 := 1#32
  let arg14 : BitVec 32 := Scf.iv c0_i32_156 c1_i32 k0_t2
  let c1024_i32 : BitVec 32 := 1024#32
  let v246 : BitVec 32 := Scalar.muli arg14 c1024_i32
  v246
def k0_off3 (k0_t2 : Fin k0_t2_loop.trips) : Fin 2 → Nat :=
  let c0_158 : Index := 0#32
  let c0_i32_156 : BitVec 32 := 0#32
  let c1_i32 : BitVec 32 := 1#32
  let arg14 : BitVec 32 := Scf.iv c0_i32_156 c1_i32 k0_t2
  let c1024_i32 : BitVec 32 := 1024#32
  let v246 : BitVec 32 := Scalar.muli arg14 c1024_i32
  let v247 : BitVec 32 := v246
  let v248 : Index := Scalar.indexCast v247
  ![0, v248.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x16384 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x6144 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x16384 : Shape := ⟨3, ![2, 128, 16384]⟩
abbrev S16384x6144 : Shape := ⟨2, ![16384, 6144]⟩
abbrev S6144 : Shape := ⟨1, ![6144]⟩
abbrev S2x128x6144 : Shape := ⟨3, ![2, 128, 6144]⟩
abbrev S2x128 : Shape := ⟨2, ![2, 128]⟩
abbrev S2x128x1 : Shape := ⟨3, ![2, 128, 1]⟩
abbrev S2x128x32x512 : Shape := ⟨4, ![2, 128, 32, 512]⟩
abbrev S32x512x6144 : Shape := ⟨3, ![32, 512, 6144]⟩
abbrev S32x6144x2x128 : Shape := ⟨4, ![32, 6144, 2, 128]⟩
abbrev S2x128x32x6144 : Shape := ⟨4, ![2, 128, 32, 6144]⟩
abbrev S1x1x6144 : Shape := ⟨3, ![1, 1, 6144]⟩

abbrev nBuf : Space → Nat
  | .hbm => 8
  | .vmem => 8
  | .smem => 0
  | _ => 0

abbrev bufTy : (tb : Table) → Fin (tcTables nBuf tb) → BufTy
  | .hbm, ⟨0, _⟩ => ⟨S2x128x16384, .bf16⟩
  | .hbm, ⟨1, _⟩ => ⟨S16384x6144, .i8⟩
  | .hbm, ⟨2, _⟩ => ⟨S6144, .f32⟩
  | .hbm, ⟨3, _⟩ => ⟨S2x128x6144, .bf16⟩
  | .hbm, ⟨4, _⟩ => ⟨S2x128x16384, .i8⟩
  | .hbm, ⟨5, _⟩ => ⟨S2x128, .f32⟩
  | .hbm, ⟨6, _⟩ => ⟨S2x128x6144, .i8⟩
  | .hbm, ⟨7, _⟩ => ⟨S2x128, .f32⟩
  | .local _ .vmem, ⟨0, _⟩ => ⟨S2x128x16384, .bf16⟩
  | .local _ .vmem, ⟨1, _⟩ => ⟨S16384x6144, .i8⟩
  | .local _ .vmem, ⟨2, _⟩ => ⟨S6144, .f32⟩
  | .local _ .vmem, ⟨3, _⟩ => ⟨S2x128x6144, .bf16⟩
  | .local _ .vmem, ⟨4, _⟩ => ⟨S2x128x16384, .i8⟩
  | .local _ .vmem, ⟨5, _⟩ => ⟨S2x128, .f32⟩
  | .local _ .vmem, ⟨6, _⟩ => ⟨S2x128x6144, .i8⟩
  | .local _ .vmem, ⟨7, _⟩ => ⟨S2x128, .f32⟩
  | _, _ => ⟨S2x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x128x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x16384 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x6144 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Runs.lean ====
/- The launch, the body's conditions and the windows' idle points that the body's three runs share. -/
module

public import proofs.«01_k».proof.Proof.Gen.Kernel.Frame
public import Idealize.ShloMosaic.Lib.Pipeline.TableIdle
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the last point the configuration calls output 4 idle, but writes it back. -/
theorem idleAt0_4_C : ∀ t : Fin cfg0.N, ¬cond0_0 (grid0.coords t) → cond0_1 (grid0.coords t) → cfg0.idle 4 (grid0.coords t) = true := by decide +kernel
/-- The last point writes output 4's block back. -/
theorem flush0_4_C : ∀ t : Fin cfg0.N, ¬cond0_0 (grid0.coords t) → cond0_1 (grid0.coords t) → (cfg0.win 4).flush t = true := by decide +kernel
/-- Output 4's buffer holds nothing stored before the first point only. -/
theorem fresh0_4 : ∀ t : Fin cfg0.N, cfg0.fresh 4 t.val = decide (t.val = 0) := by decide +kernel
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the last point the configuration calls output 5 idle, but writes it back. -/
theorem idleAt0_5_C : ∀ t : Fin cfg0.N, ¬cond0_0 (grid0.coords t) → cond0_1 (grid0.coords t) → cfg0.idle 5 (grid0.coords t) = true := by decide +kernel
/-- The last point writes output 5's block back. -/
theorem flush0_5_C : ∀ t : Fin cfg0.N, ¬cond0_0 (grid0.coords t) → cond0_1 (grid0.coords t) → (cfg0.win 5).flush t = true := by decide +kernel
/-- Output 5's buffer holds nothing stored before the first point only. -/
theorem fresh0_5 : ∀ t : Fin cfg0.N, cfg0.fresh 5 t.val = decide (t.val = 0) := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 3, through which its contents are stated (`View.read_writes_of_cover`: the
    choice does not matter). -/
abbrev VO0_3 : View sig .tc .vmem S256x512 .bf16 := (Memref.whole cc0_stg3_0 : Memref sig .tc .vmem S256x512 .bf16).view
/-- One staging buffer of output window 4, through which its contents are stated (`View.read_writes_of_cover`: the
    choice does not matter). -/
abbrev VO0_4 : View sig .tc .vmem S256x16384 .i8 := (Memref.whole cc0_stg4_0 : Memref sig .tc .vmem S256x16384 .i8).view
/-- One staging buffer of output window 5, through which its contents are stated (`View.read_writes_of_cover`: the
    choice does not matter). -/
abbrev VO0_5 : View sig .tc .vmem S2x128 .f32 := (Memref.whole cc0_stg5_0 : Memref sig .tc .vmem S2x128 .f32).view
/-- One staging buffer of output window 6, through which its contents are stated (`View.read_writes_of_cover`: the
    choice does not matter). -/
abbrev VO0_6 : View sig .tc .vmem S256x6144 .i8 := (Memref.whole cc0_stg6_0 : Memref sig .tc .vmem S256x6144 .i8).view
/-- One staging buffer of output window 7, through which its contents are stated (`View.read_writes_of_cover`: the
    choice does not matter). -/
abbrev VO0_7 : View sig .tc .vmem S2x128 .f32 := (Memref.whole cc0_stg7_0 : Memref sig .tc .vmem S2x128 .f32).view
/-- Each window's current staging memref at point `t`, spelled as the pipeline passes it (`bodyAt0`), and its wholeness. -/
abbrev ms0_0 (t : Fin cfg0.N) : Memref sig .tc .vmem S256x16384 .bf16 := win0_0.stage (cfg0.slots t 0)
/-- The staging buffer of window 0 (the input rows) is a whole buffer. -/
abbrev hs0_0 (t : Fin cfg0.N) : (ms0_0 t).IsWhole := hstage0_0 ((cfg0.slots t 0).cast nbuf0_0)
/-- The staging buffer of window 1 (the weight block) at a point. -/
abbrev ms0_1 (t : Fin cfg0.N) : Memref sig .tc .vmem S16384x512 .i8 := win0_1.stage (cfg0.slots t 1)
/-- The staging buffer of window 1 (the weight block) is a whole buffer. -/
abbrev hs0_1 (t : Fin cfg0.N) : (ms0_1 t).IsWhole := hstage0_1 ((cfg0.slots t 1).cast nbuf0_1)
/-- The staging buffer of window 2 (the weight scale block) at a point. -/
abbrev ms0_2 (t : Fin cfg0.N) : Memref sig .tc .vmem S1x512 .f32 := win0_2.stage (cfg0.slots t 2)
/-- The staging buffer of window 2 (the weight scale block) is a whole buffer. -/
abbrev hs0_2 (t : Fin cfg0.N) : (ms0_2 t).IsWhole := hstage0_2 ((cfg0.slots t 2).cast nbuf0_2)
/-- The staging buffer of window 3 (the result block) at a point. -/
abbrev ms0_3 (t : Fin cfg0.N) : Memref sig .tc .vmem S256x512 .bf16 := win0_3.stage (cfg0.slots t 3)
/-- The staging buffer of window 3 (the result block) is a whole buffer. -/
abbrev hs0_3 (t : Fin cfg0.N) : (ms0_3 t).IsWhole := hstage0_3 ((cfg0.slots t 3).cast nbuf0_3)
/-- The staging buffer of window 4 (the input codes) at a point. -/
abbrev ms0_4 (t : Fin cfg0.N) : Memref sig .tc .vmem S256x16384 .i8 := win0_4.stage (cfg0.slots t 4)
/-- The staging buffer of window 4 (the input codes) is a whole buffer. -/
abbrev hs0_4 (t : Fin cfg0.N) : (ms0_4 t).IsWhole := hstage0_4 ((cfg0.slots t 4).cast nbuf0_4)
/-- The staging buffer of window 5 (the input scales) at a point. -/
abbrev ms0_5 (t : Fin cfg0.N) : Memref sig .tc .vmem S2x128 .f32 := win0_5.stage (cfg0.slots t 5)
/-- The staging buffer of window 5 (the input scales) is a whole buffer. -/
abbrev hs0_5 (t : Fin cfg0.N) : (ms0_5 t).IsWhole := hstage0_5 ((cfg0.slots t 5).cast nbuf0_5)
/-- The staging buffer of window 6 (the result codes) at a point. -/
abbrev ms0_6 (t : Fin cfg0.N) : Memref sig .tc .vmem S256x6144 .i8 := win0_6.stage (cfg0.slots t 6)
/-- The staging buffer of window 6 (the result codes) is a whole buffer. -/
abbrev hs0_6 (t : Fin cfg0.N) : (ms0_6 t).IsWhole := hstage0_6 ((cfg0.slots t 6).cast nbuf0_6)
/-- The staging buffer of window 7 (the result scales) at a point. -/
abbrev ms0_7 (t : Fin cfg0.N) : Memref sig .tc .vmem S2x128 .f32 := win0_7.stage (cfg0.slots t 7)
/-- The staging buffer of window 7 (the result scales) is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x16384 .bf16 := Memref.whole cc0_scratch0
/-- The scratch that holds the input scales. -/
abbrev scM0_1 : Memref sig .tc .vmem S256x128 .f32 := Memref.whole cc0_scratch1
/-- The scratch that holds the integer sums. -/
abbrev scM0_2 : Memref sig .tc .vmem S256x512 .i32 := Memref.whole cc0_scratch2
/-- The scratch that holds the whole result. -/
abbrev scM0_3 : Memref sig .tc .vmem S256x6144 .f32 := Memref.whole cc0_scratch3
/-- The scratch that holds the running largest magnitudes. -/
abbrev scM0_4 : Memref sig .tc .vmem S256x128 .f32 := Memref.whole cc0_scratch4
/-- The scratch `arg9` the kernel carries between points, as a view: what it holds is stated through it. -/
abbrev VS0_0 : View sig .tc .vmem S256x16384 .bf16 := scM0_0.view
/-- The scratch `arg10` the kernel carries between points, as a view: what it holds is stated through it. -/
abbrev VS0_1 : View sig .tc .vmem S256x128 .f32 := scM0_1.view
/-- The scratch `arg12` the kernel fills block by block, as a view. -/
abbrev VS0_3 : View sig .tc .vmem S256x6144 .f32 := scM0_3.view
/-- The scratch `arg13` the kernel carries between points, as a view: what it holds is stated through it. -/
abbrev VS0_4 : View sig .tc .vmem S256x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.Kernel.RunA.lean ====
/- The body's run in case A. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1296000 in
/-- The body's run in case A (the first point): the pieces its stores leave in each output's staging buffer and in each
    scratch buffer (last first), with the proof that the body runs to a continuation holding the buffers with those
    pieces written, the inputs and every buffer it does not store into as they were. -/
noncomputable def kernelRun0_A (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : cond0_0 i) (hc1 : ¬cond0_1 i)
    (x0 : Vec F S256x16384 .bf16) (x1 : Vec F S16384x512 .i8) (x2 : Vec F S1x512 .f32) :
    Σ' (L3 : List (View.Piece (Elt F) S256x512 .bf16)), Σ' (L4 : List (View.Piece (Elt F) S256x16384 .i8)), Σ' (L5 : List (View.Piece (Elt F) S2x128 .f32)), Σ' (L6 : List (View.Piece (Elt F) S256x6144 .i8)), Σ' (L7 : List (View.Piece (Elt F) S2x128 .f32)), Σ' (LS0 : List (View.Piece (Elt F) S256x16384 .bf16)), Σ' (LS1 : List (View.Piece (Elt F) S256x128 .f32)), Σ' (LS3 : List (View.Piece (Elt F) S256x6144 .f32)), Σ' (LS4 : List (View.Piece (Elt F) S256x128 .f32)), { LT2 : List (View.Piece (Elt F) S256x512 .i32) //
      ∀ (xs3 : Vec F S256x6144 .f32) (xi6 : Vec F S256x6144 .i8) (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d) ∗ (arg12.view.loc (c : Thread nD τ) ↦[arg12.view.set]{fullShare} arg12.view.writes (Elt F) (harg12.unread xs3) LS3) ∗ (∃ f, arg13.view.loc (c : Thread nD τ) ↦[arg13.view.set]{fullShare} arg13.view.writes (Elt F) f LS4)) -∗ K ⟨⟩))
          ⊢ wp frame (wpE (defs₀ (F := F)) Variants.none c none) E (cc0_w8a8_requant i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, [], [], ?_, ?_, ?_, ?_, [], fun xs3 xi6 xi7 E K => ?run⟩
  case run =>
    simp only [cc0_w8a8_requant_eq_skeleton]; unfold cc0_w8a8_requant_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, ⟨%fs3, %hfs3, HS3⟩, ⟨%ds4, %fs4, -, HS4⟩, Hk⟩
    obtain rfl := harg1.eq_unread hf0; obtain rfl := harg12.eq_unread hfs3; obtain rfl := harg2.eq_unread hf1; obtain rfl := harg3.eq_unread hf2; obtain rfl := harg7.eq_unread hf6; obtain rfl := harg8.eq_unread hf7
    have hrd0 : ∀ (𝒱 : Variants) (c : Dev nD) (bd : Option 𝒱.V) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (k0_h1 : k0_cond1 i = 1#1) (X_arg1 : BufTy.Contents (Elt F) arg1.view.ty) (X_arg10 : BufTy.Contents (Elt F) arg10.view.ty) (hrdF : BufTy.Contents (Elt F) arg9.view.ty) (hrdB : LoadRect S256x16384), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 (Scf.trips k0_t1_loop.lb k0_t1_loop.ub k0_t1_loop.st)).2) = arg9.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 (Scf.trips k0_t1_loop.lb k0_t1_loop.ub k0_t1_loop.st)).2 S256x1024.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]
    · iexists _, _; isplitr; swap; · iexact HS2
      ipureintro; rfl
    isplitl [HS3]; · iexact HS3
    iexists _; iexact HS4

end Cert.Kernel.Hand

end
-- ==== Proof.Kernel.RunB.lean ====
/- The body's run in case B. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1200000 in
/-- The body's run in case B (the points between): the pieces its stores leave in each output's staging buffer and in each
    scratch buffer (last first), with the proof that the body runs to a continuation holding the buffers with those
    pieces written, the inputs and every buffer it does not store into as they were. -/
noncomputable def kernelRun0_B (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : ¬cond0_0 i) (hc1 : ¬cond0_1 i)
    (x0 : Vec F S256x16384 .bf16) (x1 : Vec F S16384x512 .i8) (x2 : Vec F S1x512 .f32) (xs0 : Vec F S256x16384 .bf16) (xs1 : Vec F S256x128 .f32) (xs4 : Vec F S256x128 .f32) :
    Σ' (L3 : List (View.Piece (Elt F) S256x512 .bf16)), Σ' (L4 : List (View.Piece (Elt F) S256x16384 .i8)), Σ' (L5 : List (View.Piece (Elt F) S2x128 .f32)), Σ' (L6 : List (View.Piece (Elt F) S256x6144 .i8)), Σ' (L7 : List (View.Piece (Elt F) S2x128 .f32)), Σ' (LS0 : List (View.Piece (Elt F) S256x16384 .bf16)), Σ' (LS1 : List (View.Piece (Elt F) S256x128 .f32)), Σ' (LS3 : List (View.Piece (Elt F) S256x6144 .f32)), Σ' (LS4 : List (View.Piece (Elt F) S256x128 .f32)), { LT2 : List (View.Piece (Elt F) S256x512 .i32) //
      ∀ (xs3 : Vec F S256x6144 .f32) (xi4 : Vec F S256x16384 .i8) (xi5 : Vec F S2x128 .f32) (xi6 : Vec F S256x6144 .i8) (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xs0 ∗ owns (c : Thread nD τ) arg10 fullShare xs1 ∗ (∃ d, owns (c : Thread nD τ) arg11 fullShare d) ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (arg12.view.loc (c : Thread nD τ) ↦[arg12.view.set]{fullShare} arg12.view.writes (Elt F) (harg12.unread xs3) LS3) ∗ (∃ f, arg13.view.loc (c : Thread nD τ) ↦[arg13.view.set]{fullShare} arg13.view.writes (Elt F) f LS4)) -∗ K ⟨⟩))
          ⊢ wp frame (wpE (defs₀ (F := F)) Variants.none c none) E (cc0_w8a8_requant i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], [], [], [], ?_, ?_, ?_, fun xs3 xi4 xi5 xi6 xi7 E K => ?run⟩
  case run =>
    simp only [cc0_w8a8_requant_eq_skeleton]; unfold cc0_w8a8_requant_skel
    simp only [k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg12.eq_unread hfs3; obtain rfl := harg2.eq_unread hf1; obtain rfl := harg3.eq_unread hf2; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg13.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexact HS3
    iexists _; iexact HS4

end Cert.Kernel.Hand

end
-- ==== Proof.Kernel.RunC.lean ====
/- The body's run in case C. -/
module

public import proofs.«01_k».proof.Proof.Kernel.RunB

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1200000 in
/-- The body's run in case C (the last point): the pieces its stores leave in each output's staging buffer and in each
    scratch buffer (last first), with the proof that the body runs to a continuation holding the buffers with those
    pieces written, the inputs and every buffer it does not store into as they were. -/
noncomputable def kernelRun0_C (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : ¬cond0_0 i) (hc1 : cond0_1 i)
    (x0 : Vec F S256x16384 .bf16) (x1 : Vec F S16384x512 .i8) (x2 : Vec F S1x512 .f32) (xs0 : Vec F S256x16384 .bf16) (xs1 : Vec F S256x128 .f32) (xs4 : Vec F S256x128 .f32) :
    Σ' (L3 : List (View.Piece (Elt F) S256x512 .bf16)), Σ' (L4 : List (View.Piece (Elt F) S256x16384 .i8)), Σ' (L5 : List (View.Piece (Elt F) S2x128 .f32)), Σ' (X13 : BufTy.Contents (Elt F) arg13.view.ty), Σ' (L7 : List (View.Piece (Elt F) S2x128 .f32)), Σ' (LS0 : List (View.Piece (Elt F) S256x16384 .bf16)), Σ' (LS1 : List (View.Piece (Elt F) S256x128 .f32)), Σ' (LS3 : List (View.Piece (Elt F) S256x6144 .f32)), Σ' (LS4 : List (View.Piece (Elt F) S256x128 .f32)), { LT2 : List (View.Piece (Elt F) S256x512 .i32) //
      ∀ (xs3 : Vec F S256x6144 .f32) (xi4 : Vec F S256x16384 .i8) (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 hc1 (arg12.view.writes (Elt F) (harg12.unread xs3) LS3) X13 (Scf.trips k0_t2_loop.lb k0_t2_loop.ub k0_t2_loop.st))) ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (arg12.view.loc (c : Thread nD τ) ↦[arg12.view.set]{fullShare} arg12.view.writes (Elt F) (harg12.unread xs3) LS3) ∗ (∃ f, arg13.view.loc (c : Thread nD τ) ↦[arg13.view.set]{fullShare} arg13.view.writes (Elt F) f LS4)) -∗ K ⟨⟩))
          ⊢ wp frame (wpE (defs₀ (F := F)) Variants.none c none) E (cc0_w8a8_requant i arg1 harg1 arg2 harg2 arg3 harg3 arg4 harg4 arg5 harg5 arg6 harg6 arg7 harg7 arg8 harg8 arg9 harg9 arg10 harg10 arg11 harg11 arg12 harg12 arg13 harg13) K } := by
  refine ⟨?_, [], [], ?_, ?_, [], [], ?_, ?_, ?_, fun xs3 xi4 xi5 E K => ?run⟩
  case run =>
    simp only [cc0_w8a8_requant_eq_skeleton]; unfold cc0_w8a8_requant_skel
    simp only [k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg6.eq_unread hf5; obtain rfl := harg5.eq_unread hf4; obtain rfl := harg12.eq_unread hfs3; obtain rfl := harg2.eq_unread hf1; obtain rfl := harg3.eq_unread hf2; obtain rfl := harg9.eq_unread hfs0; obtain rfl := harg10.eq_unread hfs1; obtain rfl := harg13.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexact HS3
    iexists _; iexact HS4

end Cert.Kernel.Hand

end
-- ==== Proof.Kernel.Cover.lean ====
/- The body's runs at a grid point: what the stores cover, and the scratch filled block by block. -/
module

public import proofs.«01_k».proof.Proof.Kernel.RunC
public import Idealize.ShloMosaic.Lib.WritesUnit

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄" => MT nD τ sig Unit (Elt F) ℕ (UR sig nD τ) ℕ

variable (m : (ℓ : Loc nD τ sig) → Buf (Elt F) ℓ) (ρ : Dev nD → PrngReg)

/-! ## The three runs at a grid point's buffers -/

/-- The body's run in case A at point `t`'s staging buffers and the kernel's scratch buffers. -/
abbrev runA (c : Dev nD) (t : Fin cfg0.N) (h0 : cond0_0 (grid0.coords t)) (h1 : ¬cond0_1 (grid0.coords t)) (x0 : Vec F S256x16384 .bf16) (x1 : Vec F S16384x512 .i8) (x2 : Vec F S1x512 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 h1 x0 x1 x2

/-- The body's run in case B at point `t`'s staging buffers and the kernel's scratch buffers. -/
abbrev runB (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 h1 x0 x1 x2 q s a

/-- The body's run in case C at point `t`'s staging buffers and the kernel's scratch buffers. -/
abbrev runC (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 h1 x0 x1 x2 q s a

/-- In case A the pieces stored cover the output block. -/
theorem coverA_y (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x512.Idx) :
    ∃ pc ∈ (runA c t h0 h1 x0 x1 x2).1, i ∈ pc.1.set :=
  View.cover_of_tiledL (runA c t h0 h1 x0 x1 x2).1 S256x512.size (by sl_kernel_rfl) i

/-- In case A the pieces stored cover the codes of the rows. -/
theorem coverA_xc (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x16384.Idx) :
    ∃ pc ∈ (runA c t h0 h1 x0 x1 x2).2.1, i ∈ pc.1.set :=
  View.cover_of_tiledL (runA c t h0 h1 x0 x1 x2).2.1 S256x1024.size (by sl_kernel_rfl) i

/-- In case A the pieces stored cover the scales of the rows. -/
theorem coverA_xs (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S2x128.Idx) :
    ∃ pc ∈ (runA c t h0 h1 x0 x1 x2).2.2.1, i ∈ pc.1.set :=
  View.cover_of_tiledL (runA c t h0 h1 x0 x1 x2).2.2.1 S1x128.size (by sl_kernel_rfl) i

/-- In case A the pieces stored cover the scratch holding the codes. -/
theorem coverA_q (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x16384.Idx) :
    ∃ pc ∈ (runA c t h0 h1 x0 x1 x2).2.2.2.2.2.1, i ∈ pc.1.set :=
  View.cover_of_tiledL (runA c t h0 h1 x0 x1 x2).2.2.2.2.2.1 S256x1024.size (by sl_kernel_rfl) i

/-- In case A the pieces stored cover the scratch holding the scales. -/
theorem coverA_s (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x128.Idx) :
    ∃ pc ∈ (runA c t h0 h1 x0 x1 x2).2.2.2.2.2.2.1, i ∈ pc.1.set :=
  View.cover_of_tiledL (runA c t h0 h1 x0 x1 x2).2.2.2.2.2.2.1 S256x128.size (by sl_kernel_rfl) i

/-- In case A the pieces stored cover the scratch holding the running maximum. -/
theorem coverA_a (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x128.Idx) :
    ∃ pc ∈ (runA c t h0 h1 x0 x1 x2).2.2.2.2.2.2.2.2.1, i ∈ pc.1.set :=
  View.cover_of_tiledL (runA c t h0 h1 x0 x1 x2).2.2.2.2.2.2.2.2.1 S256x128.size (by sl_kernel_rfl) i

/-- In case B the pieces stored cover the output block. -/
theorem coverB_y (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x512.Idx) :
    ∃ pc ∈ (runB c t h0 h1 x0 x1 x2 q s a).1, i ∈ pc.1.set :=
  View.cover_of_tiledL (runB c t h0 h1 x0 x1 x2 q s a).1 S256x512.size (by sl_kernel_rfl) i

/-- In case B the pieces stored cover the scratch holding the running maximum. -/
theorem coverB_a (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x128.Idx) :
    ∃ pc ∈ (runB c t h0 h1 x0 x1 x2 q s a).2.2.2.2.2.2.2.2.1, i ∈ pc.1.set :=
  View.cover_of_tiledL (runB c t h0 h1 x0 x1 x2 q s a).2.2.2.2.2.2.2.2.1 S256x128.size (by sl_kernel_rfl) i

/-- In case C the pieces stored cover the output block. -/
theorem coverC_y (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x512.Idx) :
    ∃ pc ∈ (runC c t h0 h1 x0 x1 x2 q s a).1, i ∈ pc.1.set :=
  View.cover_of_tiledL (runC c t h0 h1 x0 x1 x2 q s a).1 S256x512.size (by sl_kernel_rfl) i

/-- In case C the pieces stored cover the scales of the result. -/
theorem coverC_ys (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S2x128.Idx) :
    ∃ pc ∈ (runC c t h0 h1 x0 x1 x2 q s a).2.2.2.2.1, i ∈ pc.1.set :=
  View.cover_of_tiledL (runC c t h0 h1 x0 x1 x2 q s a).2.2.2.2.1 S1x128.size (by sl_kernel_rfl) i

/-- In case C the pieces stored cover the scratch holding the running maximum. -/
theorem coverC_a (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x128.Idx) :
    ∃ pc ∈ (runC c t h0 h1 x0 x1 x2 q s a).2.2.2.2.2.2.2.2.1, i ∈ pc.1.set :=
  View.cover_of_tiledL (runC c t h0 h1 x0 x1 x2 q s a).2.2.2.2.2.2.2.2.1 S256x128.size (by sl_kernel_rfl) i

/-! ## The scratch filled block by block -/

/-- Block `t` of the scratch `arg12` begins at column `512 t`. -/
theorem off2_eq : ∀ t : Fin cfg0.N, k0_off2 (grid0.coords t) = ![0, 512 * t.val] := by decide +kernel

/-- The scratch `arg12` after a store of the point's block over contents `X`. -/
def put12 (X : Vec F S256x6144 .f32) (L : List (View.Piece (Elt F) S256x6144 .f32)) : Vec F S256x6144 .f32 :=
  VS0_3.read (Elt F) (VS0_3.writes (Elt F) ((Memref.isWhole_whole _ : scM0_3.IsWhole).unread X) L)

/-- The list of one store of a whole block at point `t`. -/
def Blk (t : Fin cfg0.N) (L : List (View.Piece (Elt F) S256x6144 .f32)) : Prop :=
  ∃ w : Vec F S256x512 .f32, L = [⟨Rect.unit (k0_off2 (grid0.coords t)) S256x512.size (k0_off2_inb (grid0.coords t)), w⟩]

/-- At the first point the stores into the scratch result are the one block of that point. -/
theorem blkA (c : Dev nD) (t : Fin cfg0.N) (h0 : cond0_0 (grid0.coords t)) (h1 : ¬cond0_1 (grid0.coords t)) (x0 : Vec F S256x16384 .bf16) (x1 : Vec F S16384x512 .i8) (x2 : Vec F S1x512 .f32) :
    Blk t (runA c t h0 h1 x0 x1 x2).2.2.2.2.2.2.2.1 := ⟨_, rfl⟩

/-- At the middle point the stores into the scratch result are the one block of that point. -/
theorem blkB (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) :
    Blk t (runB c t h0 h1 x0 x1 x2 q s a).2.2.2.2.2.2.2.1 := ⟨_, rfl⟩

/-- At the last point the stores into the scratch result are the one block of that point. -/
theorem blkC (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) :
    Blk t (runC c t h0 h1 x0 x1 x2 q s a).2.2.2.2.2.2.2.1 := ⟨_, rfl⟩

/-- Contents that agree on the first `512 t` columns agree on the first `512 (t + 1)` after the store of block `t`. -/
theorem put12_agree (t : Fin cfg0.N) (L : List (View.Piece (Elt F) S256x6144 .f32)) (hL : Blk t L) (X Y : Vec F S256x6144 .f32)
    (h : ∀ i : S256x6144.Idx, (i 1).val < 512 * t.val → X i = Y i) (i : S256x6144.Idx) (hi : (i 1).val < 512 * (t.val + 1)) :
    put12 X L i = put12 Y L i := by
  obtain ⟨w, rfl⟩ := hL
  unfold put12
  rw [View.read_writes_cons_unit (heq := off2_eq t), View.read_writes_cons_unit (heq := off2_eq t)]
  split
  · rfl
  · rename_i hn
    simp only [View.writes_nil]
    rw [Memref.IsWhole.read_unread (m := scM0_3), Memref.IsWhole.read_unread (m := scM0_3)]
    apply h
    by_contra hc
    apply hn
    intro a
    fin_cases a
    · exact ⟨Nat.zero_le _, (i 0).isLt⟩
    · exact ⟨by simpa using hc, by simp at hi ⊢; omega⟩

/-- What the last point's code output holds, as pieces, from the contents `X` of `arg12` after the store. -/
def codesL (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (X : Vec F S256x6144 .f32) : List (View.Piece (Elt F) S256x6144 .i8) :=
  pb_k0_t2 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h1 ((Memref.isWhole_whole _ : scM0_3.IsWhole).unread X) (runC c t h0 h1 x0 x1 x2 q s a).2.2.2.1 (Scf.trips k0_t2_loop.lb k0_t2_loop.ub k0_t2_loop.st)

/-- The pieces stored cover the codes of the result. -/
theorem coverC_yc (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (X : Vec F S256x6144 .f32) (i : S256x6144.Idx) :
    ∃ pc ∈ codesL c t h0 h1 x0 x1 x2 q s a X, i ∈ pc.1.set :=
  View.cover_of_tiledL (codesL c t h0 h1 x0 x1 x2 q s a X) S256x1024.size (by sl_kernel_rfl) i

/-- The raw contents of `arg12` after the store, from what it reads. -/
theorem raw12 (X : Vec F S256x6144 .f32) (L : List (View.Piece (Elt F) S256x6144 .f32)) :
    VS0_3.writes (Elt F) ((Memref.isWhole_whole _ : scM0_3.IsWhole).unread X) L = (Memref.isWhole_whole _ : scM0_3.IsWhole).unread (put12 X L) :=
  ((Memref.isWhole_whole _ : scM0_3.IsWhole).unread_read _).symm

end Cert.Kernel.Hand

end
-- ==== Proof.Kernel.Track.lean ====
/- The pipeline's proof data, the body's obligation at every point, the launch and the frame. -/
module

public import proofs.«01_k».proof.Proof.Kernel.Cover
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs and the scratch hold after each point -/

variable (F) in
/-- The contents of the outputs' staging buffers and of the scratch buffers that the kernel carries from point to point. -/
structure St where
  /-- The point's block of the result. -/
  y : Vec F S256x512 .bf16
  /-- The codes of the rows. -/
  xc : Vec F S256x16384 .i8
  /-- The scales of the rows. -/
  xs : Vec F S2x128 .f32
  /-- The codes of the result. -/
  yc : Vec F S256x6144 .i8
  /-- The scales of the result. -/
  ys : Vec F S2x128 .f32
  /-- The scratch `arg9`: the codes as bf16. -/
  q : Vec F S256x16384 .bf16
  /-- The scratch `arg10`: the scales of the rows. -/
  s : Vec F S256x128 .f32
  /-- The scratch `arg12`: the result, block by block. -/
  Y : Vec F S256x6144 .f32
  /-- The scratch `arg13`: the running maximum. -/
  a : Vec F S256x128 .f32

/-- What the first point leaves. -/
def stA (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : St F where
  y := View.canon (runA c t h0 h1 x0 x1 x2).1
  xc := View.canon (runA c t h0 h1 x0 x1 x2).2.1
  xs := View.canon (runA c t h0 h1 x0 x1 x2).2.2.1
  yc := View.canon []
  ys := View.canon []
  q := View.canon (runA c t h0 h1 x0 x1 x2).2.2.2.2.2.1
  s := View.canon (runA c t h0 h1 x0 x1 x2).2.2.2.2.2.2.1
  Y := put12 X (runA c t h0 h1 x0 x1 x2).2.2.2.2.2.2.2.1
  a := View.canon (runA c t h0 h1 x0 x1 x2).2.2.2.2.2.2.2.2.1

/-- What a point between leaves, over what the point before left. -/
def stB (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) : St F where
  y := View.canon (runB c t h0 h1 x0 x1 x2 p.q p.s p.a).1
  xc := p.xc
  xs := p.xs
  yc := View.canon []
  ys := View.canon []
  q := p.q
  s := p.s
  Y := put12 p.Y (runB c t h0 h1 x0 x1 x2 p.q p.s p.a).2.2.2.2.2.2.2.1
  a := View.canon (runB c t h0 h1 x0 x1 x2 p.q p.s p.a).2.2.2.2.2.2.2.2.1

/-- What the last point leaves, over what the point before left. -/
def stC (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : St F where
  y := View.canon (runC c t h0 h1 x0 x1 x2 p.q p.s p.a).1
  xc := p.xc
  xs := p.xs
  yc := View.canon (codesL c t h0 h1 x0 x1 x2 p.q p.s p.a (put12 p.Y (runC c t h0 h1 x0 x1 x2 p.q p.s p.a).2.2.2.2.2.2.2.1))
  ys := View.canon (runC c t h0 h1 x0 x1 x2 p.q p.s p.a).2.2.2.2.1
  q := p.q
  s := p.s
  Y := put12 p.Y (runC c t h0 h1 x0 x1 x2 p.q p.s p.a).2.2.2.2.2.2.2.1
  a := View.canon (runC c t h0 h1 x0 x1 x2 p.q p.s p.a).2.2.2.2.2.2.2.2.1

/-- The first point is the one where the first branch is taken, -/
theorem first_of (t : Fin cfg0.N) (h : t.val = 0) : cond0_0 (grid0.coords t) ∧ ¬cond0_1 (grid0.coords t) :=
  ⟨(hcond0_0 t).mpr (by omega), fun e => by have := (hcond0_1 t).mp e; omega⟩
/-- the last point the one where the second is, -/
theorem last_of (t : Fin cfg0.N) (h : t.val = 11) : ¬cond0_0 (grid0.coords t) ∧ cond0_1 (grid0.coords t) :=
  ⟨fun e => by have := (hcond0_0 t).mp e; omega, (hcond0_1 t).mpr (by omega)⟩
/-- and at the points between neither is. -/
theorem mid_of (t : Fin cfg0.N) (h : t.val ≠ 0) (h' : t.val ≠ 11) : ¬cond0_0 (grid0.coords t) ∧ ¬cond0_1 (grid0.coords t) := by
  have hN : t.val < 12 := lt_of_lt_of_eq t.isLt (show cfg0.N = 12 from N_0)
  exact ⟨fun e => by have := (hcond0_0 t).mp e; omega, fun e => by have := (hcond0_1 t).mp e; omega⟩

/-- What the outputs and the scratch hold after the body at position `n`. -/
def stAt (c : Dev nD) : (n : ℕ) → n < cfg0.N → St F
  | 0, hn => stA c ⟨0, hn⟩ (first_of ⟨0, hn⟩ rfl).1 (first_of ⟨0, hn⟩ rfl).2 (iblk m c 0 ⟨0, hn⟩) (iblk m c 1 ⟨0, hn⟩) (iblk m c 2 ⟨0, hn⟩) (View.canon [])
  | n + 1, hn =>
    if h : n + 1 = 11 then
      stC c ⟨n + 1, hn⟩ (last_of ⟨n + 1, hn⟩ h).1 (last_of ⟨n + 1, hn⟩ h).2 (iblk m c 0 ⟨n + 1, hn⟩) (iblk m c 1 ⟨n + 1, hn⟩) (iblk m c 2 ⟨n + 1, hn⟩) (stAt c n (Nat.lt_of_succ_lt hn))
    else
      stB c ⟨n + 1, hn⟩ (mid_of ⟨n + 1, hn⟩ (Nat.succ_ne_zero n) h).1 (mid_of ⟨n + 1, hn⟩ (Nat.succ_ne_zero n) h).2 (iblk m c 0 ⟨n + 1, hn⟩) (iblk m c 1 ⟨n + 1, hn⟩) (iblk m c 2 ⟨n + 1, hn⟩) (stAt c n (Nat.lt_of_succ_lt hn))

/-- The position before a point that is not the first. -/
abbrev prev (c : Dev nD) (t : Fin cfg0.N) : St F := stAt m c (t.val - 1) (Nat.lt_of_le_of_lt (Nat.sub_le _ _) t.isLt)

/-- The state after the first point is what the body leaves there. -/
theorem stAt_A (c : Dev nD) (t : Fin cfg0.N) (h : t.val = 0) :
    stAt m c t.val t.isLt = stA c t (first_of t h).1 (first_of t h).2 (iblk m c 0 t) (iblk m c 1 t) (iblk m c 2 t) (View.canon []) := by
  obtain ⟨n, hn⟩ := t
  cases n with
  | zero => rfl
  | succ n => exact absurd h (Nat.succ_ne_zero n)
/-- The state after the middle point is what the body leaves there, started from the state of the point before. -/
theorem stAt_B (c : Dev nD) (t : Fin cfg0.N) (h : t.val ≠ 0) (h' : t.val ≠ 11) :
    stAt m c t.val t.isLt = stB c t (mid_of t h h').1 (mid_of t h h').2 (iblk m c 0 t) (iblk m c 1 t) (iblk m c 2 t) (prev m c t) := by
  obtain ⟨n, hn⟩ := t
  cases n with
  | zero => exact absurd rfl h
  | succ n => exact dif_neg h'
/-- The state after the last point is what the body leaves there, started from the state of the point before. -/
theorem stAt_C (c : Dev nD) (t : Fin cfg0.N) (h : t.val = 11) :
    stAt m c t.val t.isLt = stC c t (last_of t h).1 (last_of t h).2 (iblk m c 0 t) (iblk m c 1 t) (iblk m c 2 t) (prev m c t) := by
  obtain ⟨n, hn⟩ := t
  cases n with
  | zero => exact absurd h (by simp)
  | succ n => exact dif_pos h

/-- A middle point leaves the written input codes and scales as they were. -/
theorem stB_keep (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) :
    (stB c t h0 h1 x0 x1 x2 p).xc = p.xc ∧ (stB c t h0 h1 x0 x1 x2 p).xs = p.xs := by
  unfold stB; dsimp only; exact ⟨rfl, rfl⟩
/-- The last point leaves the written input codes and scales as they were. -/
theorem stC_keep (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) :
    (stC c t h0 h1 x0 x1 x2 p).xc = p.xc ∧ (stC c t h0 h1 x0 x1 x2 p).xs = p.xs := by
  unfold stC; dsimp only; exact ⟨rfl, rfl⟩

/-- The codes and the scales of the rows are kept from point to point. -/
theorem stAt_keep (c : Dev nD) (t : Fin cfg0.N) (h : t.val ≠ 0) :
    (stAt m c t.val t.isLt).xc = (prev m c t).xc ∧ (stAt m c t.val t.isLt).xs = (prev m c t).xs := by
  by_cases h' : t.val = 11
  · rw [stAt_C m c t h']; exact stC_keep ..
  · rw [stAt_B m c t h h']; exact stB_keep ..

/-! ## The invariant and the proof data -/

/-- Two contents of `arg12` agree on the columns below `k`. -/
def Agree (k : ℕ) (X Y : Vec F S256x6144 .f32) : Prop := ∀ i : S256x6144.Idx, (i 1).val < k → X i = Y i

/-- The invariant before position `n`: before the first point every scratch at anything; afterwards the carried
    scratch at what the point before left, `arg12` on the columns filled so far. -/
def PhiS (c : Dev nD) : (n : ℕ) → n ≤ cfg0.N → sProp 𝕄
  | 0, _ => Pipeline.ΦA spec0 c
  | n + 1, hn => iprop(iprop(owns (c : Thread nD τ) scM0_0 fullShare (stAt m c n hn).q ∗ owns (c : Thread nD τ) scM0_1 fullShare (stAt m c n hn).s ∗ (∃ d, owns (c : Thread nD τ) scM0_2 fullShare d) ∗ (∃ X, ⌜Agree (512 * (n + 1)) X (stAt m c n hn).Y⌝ ∗ owns (c : Thread nD τ) scM0_3 fullShare X) ∗ owns (c : Thread nD τ) scM0_4 fullShare (stAt m c n hn).a) ∗ (∃ r, prngReg c r))

/-- Before the first point the invariant owns the scratches at any contents. -/
theorem PhiS_zero (c : Dev nD) (n : ℕ) (h : n ≤ cfg0.N) (hz : n = 0) : PhiS m c n h = Pipeline.ΦA spec0 c := by
  subst hz; rfl
/-- After a point the invariant owns the scratches at the state that point leaves. -/
theorem PhiS_succ (c : Dev nD) (n : ℕ) (hn : n < cfg0.N) :
    PhiS m c (n + 1) hn = iprop(iprop(owns (c : Thread nD τ) scM0_0 fullShare (stAt m c n hn).q ∗ owns (c : Thread nD τ) scM0_1 fullShare (stAt m c n hn).s ∗ (∃ d, owns (c : Thread nD τ) scM0_2 fullShare d) ∗ (∃ X, ⌜Agree (512 * (n + 1)) X (stAt m c n hn).Y⌝ ∗ owns (c : Thread nD τ) scM0_3 fullShare X) ∗ owns (c : Thread nD τ) scM0_4 fullShare (stAt m c n hn).a) ∗ (∃ r, prngReg c r)) := rfl
/-- Before a point that is not the first, the invariant owns the scratches at the state of the point before. -/
theorem PhiS_pos (c : Dev nD) (t : Fin cfg0.N) (hz : t.val ≠ 0) :
    PhiS m c t.val (Nat.le_of_lt t.isLt) = iprop(iprop(owns (c : Thread nD τ) scM0_0 fullShare (prev m c t).q ∗ owns (c : Thread nD τ) scM0_1 fullShare (prev m c t).s ∗ (∃ d, owns (c : Thread nD τ) scM0_2 fullShare d) ∗ (∃ X, ⌜Agree (512 * t.val) X (prev m c t).Y⌝ ∗ owns (c : Thread nD τ) scM0_3 fullShare X) ∗ owns (c : Thread nD τ) scM0_4 fullShare (prev m c t).a) ∗ (∃ r, prngReg c r)) := by
  obtain ⟨n, hn⟩ := t
  cases n with
  | zero => exact absurd rfl hz
  | succ n => rfl

/-- The proof data of the pipeline on core `c`: the arrays as the region finds them; after the body each input's buffer
    at its block and the outputs' at `stAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).y
    | ⟨4, _⟩ => (stAt m c t.val t.isLt).xc
    | ⟨5, _⟩ => (stAt m c t.val t.isLt).xs
    | ⟨6, _⟩ => (stAt m c t.val t.isLt).yc
    | ⟨7, _⟩ => (stAt m c t.val t.isLt).ys
  Φ t := PhiS m c t.val (Nat.le_of_lt_succ t.isLt)
  q _ := fullShare
  owed _ := 0

/-- The array a window starts from is the one in memory before the launch. -/
theorem A_eq (c : Dev nD) (w : Fin cfg0.W) : (dats m 0 c).A w = V m c (Pipeline.arrRef spec0 w) := by
  dsimp only [dats]
/-- The invariant of the proof data before a point is the one stated above. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
/-- A point leaves the window of the input rows at its own block. -/
theorem after0_0 (c : Dev nD) (t : Fin cfg0.N) : (dats m 0 c).after 0 t = iblk m c 0 t := by dsimp only [dats]
/-- A point leaves the window of the weight block at its own block. -/
theorem after0_1 (c : Dev nD) (t : Fin cfg0.N) : (dats m 0 c).after 1 t = iblk m c 1 t := by dsimp only [dats]
/-- A point leaves the window of the weight scale block at its own block. -/
theorem after0_2 (c : Dev nD) (t : Fin cfg0.N) : (dats m 0 c).after 2 t = iblk m c 2 t := by dsimp only [dats]
/-- A point leaves the window of the result block at what the state records. -/
theorem after0_3 (c : Dev nD) (t : Fin cfg0.N) : (dats m 0 c).after 3 t = (stAt m c t.val t.isLt).y := by dsimp only [dats]
/-- A point leaves the window of the input codes at what the state records. -/
theorem after0_4 (c : Dev nD) (t : Fin cfg0.N) : (dats m 0 c).after 4 t = (stAt m c t.val t.isLt).xc := by dsimp only [dats]
/-- A point leaves the window of the input scales at what the state records. -/
theorem after0_5 (c : Dev nD) (t : Fin cfg0.N) : (dats m 0 c).after 5 t = (stAt m c t.val t.isLt).xs := by dsimp only [dats]
/-- A point leaves the window of the result codes at what the state records. -/
theorem after0_6 (c : Dev nD) (t : Fin cfg0.N) : (dats m 0 c).after 6 t = (stAt m c t.val t.isLt).yc := by dsimp only [dats]
/-- A point leaves the window of the result scales at what the state records. -/
theorem after0_7 (c : Dev nD) (t : Fin cfg0.N) : (dats m 0 c).after 7 t = (stAt m c t.val t.isLt).ys := by dsimp only [dats]
/-- A point finds the block of the input rows in its window. -/
theorem before0_0 (c : Dev nD) (t : Fin cfg0.N) (d) : (dats m 0 c).before 0 t d = iblk m c 0 t :=
  before0_0_of m (dats m 0 c) (A_eq m c 0) (after0_0 m c) t d
/-- A point finds the block of the weight block in its window. -/
theorem before0_1 (c : Dev nD) (t : Fin cfg0.N) (d) : (dats m 0 c).before 1 t d = iblk m c 1 t :=
  before0_1_of m (dats m 0 c) (A_eq m c 1) (after0_1 m c) t d
/-- A point finds the block of the weight scale block in its window. -/
theorem before0_2 (c : Dev nD) (t : Fin cfg0.N) (d) : (dats m 0 c).before 2 t d = iblk m c 2 t :=
  before0_2_of m (dats m 0 c) (A_eq m c 2) (after0_2 m c) t d

/-- After the first point the codes' buffer holds what the point before left. -/
theorem before0_4 (c : Dev nD) (t : Fin cfg0.N) (h : t.val ≠ 0) (d) : (dats m 0 c).before 4 t d = (prev m c t).xc := by
  rw [(dats m 0 c).before_out_traj 4 rfl (fun _ _ => rfl) (fun t ht _ _ => by
    rw [after0_4, after0_4]; exact (stAt_keep m c t ht).1) t.val t rfl d, fresh0_4, after0_4]
  simp only [h, decide_false, Bool.false_eq_true, if_false]
/-- And so does the scales' buffer. -/
theorem before0_5 (c : Dev nD) (t : Fin cfg0.N) (h : t.val ≠ 0) (d) : (dats m 0 c).before 5 t d = (prev m c t).xs := by
  rw [(dats m 0 c).before_out_traj 5 rfl (fun _ _ => rfl) (fun t ht _ _ => by
    rw [after0_5, after0_5]; exact (stAt_keep m c t ht).2) t.val t rfl d, fresh0_5, after0_5]
  simp only [h, decide_false, Bool.false_eq_true, if_false]

/-- A buffer whose contents read `X` is owned at `X`. -/
theorem owns_at (c : Dev nD) {sp : Space} {sh : Shape} {e : EltTy} (M : Memref sig .tc sp sh e) (f) (X : Vec F sh e) (h : M.view.read (Elt F) f = X) :
    (M.view.loc (c : Thread nD τ) ↦[M.view.set]{fullShare} f : sProp 𝕄) ⊢ owns (c : Thread nD τ) M fullShare X := by
  unfold owns
  iintro H
  iexists _
  isplitr
  swap
  · iexact H
  ipureintro
  exact h

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body's triple in case A. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_A t (first_of t h).1 (first_of t h).2], after0_4]
  rw [show (dats m 0 c).leavesExact 5 t = owns (c : Thread nD τ) (ms0_5 t) fullShare ((dats m 0 c).after 5 t) from by
    unfold Dat.leavesExact; rw [liveAt0_5_A t (first_of t h).1 (first_of t h).2], after0_5]
  rw [Dat.leavesExact_idle (dats m 0 c) 6 t (idleAt0_6_A t (first_of t h).1 (first_of t h).2) (noFlush0_6_A t (first_of t h).1 (first_of t h).2)]
  rw [Dat.leavesExact_idle (dats m 0 c) 7 t (idleAt0_7_A t (first_of t h).1 (first_of t h).2) (noFlush0_7_A t (first_of t h).1 (first_of t h).2)]
  rw [PhiS_castSucc m c t, PhiS_zero m c _ _ h, PhiA0_eq]
  rw [stAt_A m c t h]
  unfold stA; dsimp only
  iintro ⟨⟨⟨HS0, HS1, HS2, ⟨%X, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c t (first_of t h).1 (first_of t h).2 (iblk m c 0 t) (iblk m c 1 t) (iblk m c 2 t)).2.2.2.2.2.2.2.2.2.2 X _ _ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, ⟨%e4, H4⟩, ⟨%e5, H5⟩, H6, H7, ⟨%es0, HS0⟩, ⟨%es1, HS1⟩, HS2, HS3, ⟨%es4, HS4⟩⟩
  isplitl [HS0 HS1 HS2 HS3 HS4 Hg]
  · isplitl [HS0 HS1 HS2 HS3 HS4]
    · isplitl [HS0]
      · iapply (owns_at c scM0_0 _ _ (View.read_writes_eq_canon _ _ _ (coverA_q c t _ _ _ _ _))); iexact HS0
      isplitl [HS1]
      · iapply (owns_at c scM0_1 _ _ (View.read_writes_eq_canon _ _ _ (coverA_s c t _ _ _ _ _))); iexact HS1
      isplitl [HS2]; · iexact HS2
      isplitl [HS3]
      · iexists (put12 X (runA c t (first_of t h).1 (first_of t h).2 (iblk m c 0 t) (iblk m c 1 t) (iblk m c 2 t)).2.2.2.2.2.2.2.1); isplitr
        · ipureintro; exact put12_agree t _ (blkA c t _ _ _ _ _) X _ (fun i hi => absurd hi (by omega))
        iapply (owns_at c scM0_3 _ _ rfl); iexact HS3
      iapply (owns_at c scM0_4 _ _ (View.read_writes_eq_canon _ _ _ (coverA_a c t _ _ _ _ _))); iexact HS4
    iexact Hg
  isplitl [Ho]; · iexact Ho
  isplitl [H0]; · iexact H0
  isplitl [H1]; · iexact H1
  isplitl [H2]; · iexact H2
  isplitl [H3]
  · iapply (owns_at c (ms0_3 t) _ _ (View.read_writes_eq_canon _ _ _ (coverA_y c t _ _ _ _ _))); iexact H3
  isplitl [H4]
  · iapply (owns_at c (ms0_4 t) _ _ (View.read_writes_eq_canon _ _ _ (coverA_xc c t _ _ _ _ _))); iexact H4
  isplitl [H5]
  · iapply (owns_at c (ms0_5 t) _ _ (View.read_writes_eq_canon _ _ _ (coverA_xs c t _ _ _ _ _))); iexact H5
  isplitl [H6]
  · iexists _; iexact H6
  iexists _; iexact H7

set_option maxHeartbeats 4000000 in
/-- The body's triple in case B. -/
theorem sound_B (c : Dev nD) (t : Fin cfg0.N) (h : t.val ≠ 0) (h' : t.val ≠ 11) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_B t (mid_of t h h').1 (mid_of t h h').2) (noFlush0_4_B t (mid_of t h h').1 (mid_of t h h').2)]
  rw [Dat.leavesExact_idle (dats m 0 c) 5 t (idleAt0_5_B t (mid_of t h h').1 (mid_of t h h').2) (noFlush0_5_B t (mid_of t h h').1 (mid_of t h h').2)]
  rw [Dat.leavesExact_idle (dats m 0 c) 6 t (idleAt0_6_B t (mid_of t h h').1 (mid_of t h h').2) (noFlush0_6_B t (mid_of t h h').1 (mid_of t h h').2)]
  rw [Dat.leavesExact_idle (dats m 0 c) 7 t (idleAt0_7_B t (mid_of t h h').1 (mid_of t h h').2) (noFlush0_7_B t (mid_of t h h').1 (mid_of t h h').2)]
  rw [PhiS_castSucc m c t, PhiS_pos m c t h]
  rw [stAt_B m c t h h']
  unfold stB; dsimp only
  iintro ⟨⟨⟨HS0, HS1, HS2, ⟨%X, %hX, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c t (mid_of t h h').1 (mid_of t h h').2 (iblk m c 0 t) (iblk m c 1 t) (iblk m c 2 t) (prev m c t).q (prev m c t).s (prev m c t).a).2.2.2.2.2.2.2.2.2.2 X _ _ _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, H4, H5, H6, H7, HS0, HS1, ⟨%fT2, HS2⟩, HS3, ⟨%es4, HS4⟩⟩
  isplitl [HS0 HS1 HS2 HS3 HS4 Hg]
  · isplitl [HS0 HS1 HS2 HS3 HS4]
    · isplitl [HS0]
      · iexact HS0
      isplitl [HS1]; · iexact HS1
      isplitl [HS2]
      · iexists _; iapply (owns_at c scM0_2 _ _ rfl); iexact HS2
      isplitl [HS3]
      · iexists (put12 X (runB c t (mid_of t h h').1 (mid_of t h h').2 (iblk m c 0 t) (iblk m c 1 t) (iblk m c 2 t) (prev m c t).q (prev m c t).s (prev m c t).a).2.2.2.2.2.2.2.1); isplitr
        · ipureintro; exact put12_agree t _ (blkB c t _ _ _ _ _ _ _ _) X _ hX
        iapply (owns_at c scM0_3 _ _ rfl); iexact HS3
      iapply (owns_at c scM0_4 _ _ (View.read_writes_eq_canon _ _ _ (coverB_a c t _ _ _ _ _ _ _ _))); iexact HS4
    iexact Hg
  isplitl [Ho]; · iexact Ho
  isplitl [H0]; · iexact H0
  isplitl [H1]; · iexact H1
  isplitl [H2]; · iexact H2
  isplitl [H3]
  · iapply (owns_at c (ms0_3 t) _ _ (View.read_writes_eq_canon _ _ _ (coverB_y c t _ _ _ _ _ _ _ _))); iexact H3
  isplitl [H4]
  · iexists _; iexact H4
  isplitl [H5]
  · iexists _; iexact H5
  isplitl [H6]
  · iexists _; iexact H6
  iexists _; iexact H7

set_option maxHeartbeats 4000000 in
/-- The body's triple in case C. -/
theorem sound_C (c : Dev nD) (t : Fin cfg0.N) (h : t.val = 11) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [idleAt0_4_C t (last_of t h).1 (last_of t h).2, flush0_4_C t (last_of t h).1 (last_of t h).2], after0_4]
  rw [show (dats m 0 c).leavesExact 5 t = owns (c : Thread nD τ) (ms0_5 t) fullShare ((dats m 0 c).after 5 t) from by
    unfold Dat.leavesExact; rw [idleAt0_5_C t (last_of t h).1 (last_of t h).2, flush0_5_C t (last_of t h).1 (last_of t h).2], after0_5]
  rw [show (dats m 0 c).leavesExact 6 t = owns (c : Thread nD τ) (ms0_6 t) fullShare ((dats m 0 c).after 6 t) from by
    unfold Dat.leavesExact; rw [liveAt0_6_C t (last_of t h).1 (last_of t h).2], after0_6]
  rw [show (dats m 0 c).leavesExact 7 t = owns (c : Thread nD τ) (ms0_7 t) fullShare ((dats m 0 c).after 7 t) from by
    unfold Dat.leavesExact; rw [liveAt0_7_C t (last_of t h).1 (last_of t h).2], after0_7]
  rw [PhiS_castSucc m c t, PhiS_pos m c t (by omega)]
  simp only [before0_4 m c t (by omega), before0_5 m c t (by omega)]
  rw [stAt_C m c t h]
  unfold stC; dsimp only
  iintro ⟨⟨⟨HS0, HS1, HS2, ⟨%X, %hX, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c t (last_of t h).1 (last_of t h).2 (iblk m c 0 t) (iblk m c 1 t) (iblk m c 2 t) (prev m c t).q (prev m c t).s (prev m c t).a).2.2.2.2.2.2.2.2.2.2 X _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, H4, H5, ⟨%e6, H6⟩, ⟨%e7, H7⟩, HS0, HS1, ⟨%fT2, HS2⟩, HS3, ⟨%es4, HS4⟩⟩
  have hXC : put12 X (runC c t (last_of t h).1 (last_of t h).2 (iblk m c 0 t) (iblk m c 1 t) (iblk m c 2 t) (prev m c t).q (prev m c t).s (prev m c t).a).2.2.2.2.2.2.2.1
      = put12 (prev m c t).Y (runC c t (last_of t h).1 (last_of t h).2 (iblk m c 0 t) (iblk m c 1 t) (iblk m c 2 t) (prev m c t).q (prev m c t).s (prev m c t).a).2.2.2.2.2.2.2.1 := by
    funext i
    refine put12_agree t _ (blkC c t _ _ _ _ _ _ _ _) X _ hX i ?_
    have := (i 1).isLt
    have e : S256x6144.size 1 = 6144 := rfl
    omega
  have hyc : (ms0_6 t).view.read (Elt F) ((ms0_6 t).view.writes (Elt F) e6 (codesL c t (last_of t h).1 (last_of t h).2 (iblk m c 0 t) (iblk m c 1 t) (iblk m c 2 t) (prev m c t).q (prev m c t).s (prev m c t).a (put12 X (runC c t (last_of t h).1 (last_of t h).2 (iblk m c 0 t) (iblk m c 1 t) (iblk m c 2 t) (prev m c t).q (prev m c t).s (prev m c t).a).2.2.2.2.2.2.2.1)))
      = View.canon (codesL c t (last_of t h).1 (last_of t h).2 (iblk m c 0 t) (iblk m c 1 t) (iblk m c 2 t) (prev m c t).q (prev m c t).s (prev m c t).a (put12 (prev m c t).Y (runC c t (last_of t h).1 (last_of t h).2 (iblk m c 0 t) (iblk m c 1 t) (iblk m c 2 t) (prev m c t).q (prev m c t).s (prev m c t).a).2.2.2.2.2.2.2.1)) := by
    rw [hXC]
    exact View.read_writes_eq_canon _ _ _ (coverC_yc c t _ _ _ _ _ _ _ _ _)
  isplitl [HS0 HS1 HS2 HS3 HS4 Hg]
  · isplitl [HS0 HS1 HS2 HS3 HS4]
    · isplitl [HS0]
      · iexact HS0
      isplitl [HS1]; · iexact HS1
      isplitl [HS2]
      · iexists _; iapply (owns_at c scM0_2 _ _ rfl); iexact HS2
      isplitl [HS3]
      · iexists (put12 X (runC c t (last_of t h).1 (last_of t h).2 (iblk m c 0 t) (iblk m c 1 t) (iblk m c 2 t) (prev m c t).q (prev m c t).s (prev m c t).a).2.2.2.2.2.2.2.1); isplitr
        · ipureintro; exact fun i _ => congrFun hXC i
        iapply (owns_at c scM0_3 _ _ rfl); iexact HS3
      iapply (owns_at c scM0_4 _ _ (View.read_writes_eq_canon _ _ _ (coverC_a c t _ _ _ _ _ _ _ _))); iexact HS4
    iexact Hg
  isplitl [Ho]; · iexact Ho
  isplitl [H0]; · iexact H0
  isplitl [H1]; · iexact H1
  isplitl [H2]; · iexact H2
  isplitl [H3]
  · iapply (owns_at c (ms0_3 t) _ _ (View.read_writes_eq_canon _ _ _ (coverC_y c t _ _ _ _ _ _ _ _))); iexact H3
  isplitl [H4]
  · iexact H4
  isplitl [H5]
  · iexact H5
  isplitl [H6]
  · iapply (owns_at c (ms0_6 t) _ _ hyc); unfold codesL; rw [← raw12]; iexact H6
  iapply (owns_at c (ms0_7 t) _ _ (View.read_writes_eq_canon _ _ _ (coverC_ys c t _ _ _ _ _ _ _ _))); iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  · by_cases h' : t.val = 11
    · exact sound_C m c t h'
    · exact sound_B m c t h h'

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at anything. -/
theorem hout (c : Dev nD) : (dats m 0 c).Φ (Fin.last cfg0.N) ⊢ Pipeline.ΦA spec0 c := by
  rw [show (dats m 0 c).Φ (Fin.last cfg0.N) = PhiS m c (11 + 1) (by rw [show cfg0.N = 12 from N_0]) from rfl, PhiS_succ, PhiA0_eq]
  iintro ⟨⟨HS0, HS1, HS2, ⟨%X, %hX, HS3⟩, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexists _; iexact HS3
    iexists _; iexact HS4
  iexact Hg

/-! ## The run and the frame -/

set_option backward.isDefEq.respectTransparency.types false in
set_option maxHeartbeats 800000 in
/-- The launch: the run ends with every array at what the proof data computes and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdeal.Runs.lean ====
/- The launch, the body's conditions and the windows' idle points that the body's three runs share. -/
module

public import proofs.«01_k».proof.Proof.Gen.KernelIdeal.Frame
public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the last point the configuration calls output 4 idle, but writes it back. -/
theorem idleAt0_4_C : ∀ t : Fin cfg0.N, ¬cond0_0 (grid0.coords t) → cond0_1 (grid0.coords t) → cfg0.idle 4 (grid0.coords t) = true := by decide +kernel
/-- The last point writes output 4's block back. -/
theorem flush0_4_C : ∀ t : Fin cfg0.N, ¬cond0_0 (grid0.coords t) → cond0_1 (grid0.coords t) → (cfg0.win 4).flush t = true := by decide +kernel
/-- Output 4's buffer holds nothing stored before the first point only. -/
theorem fresh0_4 : ∀ t : Fin cfg0.N, cfg0.fresh 4 t.val = decide (t.val = 0) := by decide +kernel
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the last point the configuration calls output 5 idle, but writes it back. -/
theorem idleAt0_5_C : ∀ t : Fin cfg0.N, ¬cond0_0 (grid0.coords t) → cond0_1 (grid0.coords t) → cfg0.idle 5 (grid0.coords t) = true := by decide +kernel
/-- The last point writes output 5's block back. -/
theorem flush0_5_C : ∀ t : Fin cfg0.N, ¬cond0_0 (grid0.coords t) → cond0_1 (grid0.coords t) → (cfg0.win 5).flush t = true := by decide +kernel
/-- Output 5's buffer holds nothing stored before the first point only. -/
theorem fresh0_5 : ∀ t : Fin cfg0.N, cfg0.fresh 5 t.val = decide (t.val = 0) := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 3, through which its contents are stated (`View.read_writes_of_cover`: the
    choice does not matter). -/
abbrev VO0_3 : View sig .tc .vmem S256x512 .bf16 := (Memref.whole cc0_stg3_0 : Memref sig .tc .vmem S256x512 .bf16).view
/-- One staging buffer of output window 4, through which its contents are stated (`View.read_writes_of_cover`: the
    choice does not matter). -/
abbrev VO0_4 : View sig .tc .vmem S256x16384 .i8 := (Memref.whole cc0_stg4_0 : Memref sig .tc .vmem S256x16384 .i8).view
/-- One staging buffer of output window 5, through which its contents are stated (`View.read_writes_of_cover`: the
    choice does not matter). -/
abbrev VO0_5 : View sig .tc .vmem S2x128 .f32 := (Memref.whole cc0_stg5_0 : Memref sig .tc .vmem S2x128 .f32).view
/-- One staging buffer of output window 6, through which its contents are stated (`View.read_writes_of_cover`: the
    choice does not matter). -/
abbrev VO0_6 : View sig .tc .vmem S256x6144 .i8 := (Memref.whole cc0_stg6_0 : Memref sig .tc .vmem S256x6144 .i8).view
/-- One staging buffer of output window 7, through which its contents are stated (`View.read_writes_of_cover`: the
    choice does not matter). -/
abbrev VO0_7 : View sig .tc .vmem S2x128 .f32 := (Memref.whole cc0_stg7_0 : Memref sig .tc .vmem S2x128 .f32).view
/-- Each window's current staging memref at point `t`, spelled as the pipeline passes it (`bodyAt0`), and its wholeness. -/
abbrev ms0_0 (t : Fin cfg0.N) : Memref sig .tc .vmem S256x16384 .bf16 := win0_0.stage (cfg0.slots t 0)
/-- The staging buffer of window 0 (the input rows) is a whole buffer. -/
abbrev hs0_0 (t : Fin cfg0.N) : (ms0_0 t).IsWhole := hstage0_0 ((cfg0.slots t 0).cast nbuf0_0)
/-- The staging buffer of window 1 (the weight block) at a point. -/
abbrev ms0_1 (t : Fin cfg0.N) : Memref sig .tc .vmem S16384x512 .i8 := win0_1.stage (cfg0.slots t 1)
/-- The staging buffer of window 1 (the weight block) is a whole buffer. -/
abbrev hs0_1 (t : Fin cfg0.N) : (ms0_1 t).IsWhole := hstage0_1 ((cfg0.slots t 1).cast nbuf0_1)
/-- The staging buffer of window 2 (the weight scale block) at a point. -/
abbrev ms0_2 (t : Fin cfg0.N) : Memref sig .tc .vmem S1x512 .f32 := win0_2.stage (cfg0.slots t 2)
/-- The staging buffer of window 2 (the weight scale block) is a whole buffer. -/
abbrev hs0_2 (t : Fin cfg0.N) : (ms0_2 t).IsWhole := hstage0_2 ((cfg0.slots t 2).cast nbuf0_2)
/-- The staging buffer of window 3 (the result block) at a point. -/
abbrev ms0_3 (t : Fin cfg0.N) : Memref sig .tc .vmem S256x512 .bf16 := win0_3.stage (cfg0.slots t 3)
/-- The staging buffer of window 3 (the result block) is a whole buffer. -/
abbrev hs0_3 (t : Fin cfg0.N) : (ms0_3 t).IsWhole := hstage0_3 ((cfg0.slots t 3).cast nbuf0_3)
/-- The staging buffer of window 4 (the input codes) at a point. -/
abbrev ms0_4 (t : Fin cfg0.N) : Memref sig .tc .vmem S256x16384 .i8 := win0_4.stage (cfg0.slots t 4)
/-- The staging buffer of window 4 (the input codes) is a whole buffer. -/
abbrev hs0_4 (t : Fin cfg0.N) : (ms0_4 t).IsWhole := hstage0_4 ((cfg0.slots t 4).cast nbuf0_4)
/-- The staging buffer of window 5 (the input scales) at a point. -/
abbrev ms0_5 (t : Fin cfg0.N) : Memref sig .tc .vmem S2x128 .f32 := win0_5.stage (cfg0.slots t 5)
/-- The staging buffer of window 5 (the input scales) is a whole buffer. -/
abbrev hs0_5 (t : Fin cfg0.N) : (ms0_5 t).IsWhole := hstage0_5 ((cfg0.slots t 5).cast nbuf0_5)
/-- The staging buffer of window 6 (the result codes) at a point. -/
abbrev ms0_6 (t : Fin cfg0.N) : Memref sig .tc .vmem S256x6144 .i8 := win0_6.stage (cfg0.slots t 6)
/-- The staging buffer of window 6 (the result codes) is a whole buffer. -/
abbrev hs0_6 (t : Fin cfg0.N) : (ms0_6 t).IsWhole := hstage0_6 ((cfg0.slots t 6).cast nbuf0_6)
/-- The staging buffer of window 7 (the result scales) at a point. -/
abbrev ms0_7 (t : Fin cfg0.N) : Memref sig .tc .vmem S2x128 .f32 := win0_7.stage (cfg0.slots t 7)
/-- The staging buffer of window 7 (the result scales) is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x16384 .bf16 := Memref.whole cc0_scratch0
/-- The scratch that holds the input scales. -/
abbrev scM0_1 : Memref sig .tc .vmem S256x128 .f32 := Memref.whole cc0_scratch1
/-- The scratch that holds the integer sums. -/
abbrev scM0_2 : Memref sig .tc .vmem S256x512 .i32 := Memref.whole cc0_scratch2
/-- The scratch that holds the whole result. -/
abbrev scM0_3 : Memref sig .tc .vmem S256x6144 .f32 := Memref.whole cc0_scratch3
/-- The scratch that holds the running largest magnitudes. -/
abbrev scM0_4 : Memref sig .tc .vmem S256x128 .f32 := Memref.whole cc0_scratch4
/-- The scratch `arg9` the kernel carries between points, as a view: what it holds is stated through it. -/
abbrev VS0_0 : View sig .tc .vmem S256x16384 .bf16 := scM0_0.view
/-- The scratch `arg10` the kernel carries between points, as a view: what it holds is stated through it. -/
abbrev VS0_1 : View sig .tc .vmem S256x128 .f32 := scM0_1.view
/-- The scratch `arg12` the kernel fills block by block, as a view. -/
abbrev VS0_3 : View sig .tc .vmem S256x6144 .f32 := scM0_3.view
/-- The scratch `arg13` the kernel carries between points, as a view: what it holds is stated through it. -/
abbrev VS0_4 : View sig .tc .vmem S256x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KernelIdeal.RunA.lean ====
/- The body's run in case A. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1296000 in
/-- The body's run in case A (the first point): the pieces its stores leave in each output's staging buffer and in each
    scratch buffer (last first), with the proof that the body runs to a continuation holding the buffers with those
    pieces written, the inputs and every buffer it does not store into as they were. -/
noncomputable def kernelRun0_A (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : cond0_0 i) (hc1 : ¬cond0_1 i)
    (x0 : Vec F S256x16384 .bf16) (x1 : Vec F S16384x512 .i8) (x2 : Vec F S1x512 .f32) :
    Σ' (L3 : List (View.Piece (Elt F) S256x512 .bf16)), Σ' (L4 : List (View.Piece (Elt F) S256x16384 .i8)), Σ' (L5 : List (View.Piece (Elt F) S2x128 .f32)), Σ' (L6 : List (View.Piece (Elt F) S256x6144 .i8)), Σ' (L7 : List (View.Piece (Elt F) S2x128 .f32)), Σ' (LS0 : List (View.Piece (Elt F) S256x16384 .bf16)), Σ' (LS1 : List (View.Piece (Elt F) S256x128 .f32)), Σ' (LS3 : List (View.Piece (Elt F) S256x6144 .f32)), Σ' (LS4 : List (View.Piece (Elt F) S256x128 .f32)), { LT2 : List (View.Piece (Elt F) S256x512 .i32) //
      ∀ (xs3 : Vec F S256x6144 .f32) (xi6 : Vec F S256x6144 .i8) (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d) ∗ (arg12.view.loc (c : Thread nD τ) ↦[arg12.view.set]{fullShare} arg12.view.writes (Elt F) (harg12.unread xs3) LS3) ∗ (∃ f, arg13.view.loc (c : Thread nD τ) ↦[arg13.view.set]{fullShare} arg13.view.writes (Elt F) f LS4)) -∗ K ⟨⟩))
          ⊢ wp frame (wpE (defs₀ (F := F)) Variants.none c none) E (cc0_w8a8_requant i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, [], [], ?_, ?_, ?_, ?_, [], fun xs3 xi6 xi7 E K => ?run⟩
  case run =>
    simp only [cc0_w8a8_requant_eq_skeleton]; unfold cc0_w8a8_requant_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, ⟨%fs3, %hfs3, HS3⟩, ⟨%ds4, %fs4, -, HS4⟩, Hk⟩
    obtain rfl := harg1.eq_unread hf0; obtain rfl := harg12.eq_unread hfs3; obtain rfl := harg2.eq_unread hf1; obtain rfl := harg3.eq_unread hf2; obtain rfl := harg7.eq_unread hf6; obtain rfl := harg8.eq_unread hf7
    have hrd0 : ∀ (𝒱 : Variants) (c : Dev nD) (bd : Option 𝒱.V) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (k0_h1 : k0_cond1 i = 1#1) (X_arg1 : BufTy.Contents (Elt F) arg1.view.ty) (X_arg10 : BufTy.Contents (Elt F) arg10.view.ty) (hrdF : BufTy.Contents (Elt F) arg9.view.ty) (hrdB : LoadRect S256x16384), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 (Scf.trips k0_t1_loop.lb k0_t1_loop.ub k0_t1_loop.st)).2) = arg9.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 X_arg10 (Scf.trips k0_t1_loop.lb k0_t1_loop.ub k0_t1_loop.st)).2 S256x1024.size (by sl_kernel_rfl) (hrdB.idx hrdJ))
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    isplitl [HS1]; · iexists _; iexact HS1
    isplitl [HS2]
    · iexists _, _; isplitr; swap; · iexact HS2
      ipureintro; rfl
    isplitl [HS3]; · iexact HS3
    iexists _; iexact HS4

end Cert.KernelIdeal.Hand

end
-- ==== Proof.KernelIdeal.RunB.lean ====
/- The body's run in case B. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1200000 in
/-- The body's run in case B (the points between): the pieces its stores leave in each output's staging buffer and in each
    scratch buffer (last first), with the proof that the body runs to a continuation holding the buffers with those
    pieces written, the inputs and every buffer it does not store into as they were. -/
noncomputable def kernelRun0_B (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : ¬cond0_0 i) (hc1 : ¬cond0_1 i)
    (x0 : Vec F S256x16384 .bf16) (x1 : Vec F S16384x512 .i8) (x2 : Vec F S1x512 .f32) (xs0 : Vec F S256x16384 .bf16) (xs1 : Vec F S256x128 .f32) (xs4 : Vec F S256x128 .f32) :
    Σ' (L3 : List (View.Piece (Elt F) S256x512 .bf16)), Σ' (L4 : List (View.Piece (Elt F) S256x16384 .i8)), Σ' (L5 : List (View.Piece (Elt F) S2x128 .f32)), Σ' (L6 : List (View.Piece (Elt F) S256x6144 .i8)), Σ' (L7 : List (View.Piece (Elt F) S2x128 .f32)), Σ' (LS0 : List (View.Piece (Elt F) S256x16384 .bf16)), Σ' (LS1 : List (View.Piece (Elt F) S256x128 .f32)), Σ' (LS3 : List (View.Piece (Elt F) S256x6144 .f32)), Σ' (LS4 : List (View.Piece (Elt F) S256x128 .f32)), { LT2 : List (View.Piece (Elt F) S256x512 .i32) //
      ∀ (xs3 : Vec F S256x6144 .f32) (xi4 : Vec F S256x16384 .i8) (xi5 : Vec F S2x128 .f32) (xi6 : Vec F S256x6144 .i8) (xi7 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xs0 ∗ owns (c : Thread nD τ) arg10 fullShare xs1 ∗ (∃ d, owns (c : Thread nD τ) arg11 fullShare d) ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ owns (c : Thread nD τ) arg7 fullShare xi6 ∗ owns (c : Thread nD τ) arg8 fullShare xi7 ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (arg12.view.loc (c : Thread nD τ) ↦[arg12.view.set]{fullShare} arg12.view.writes (Elt F) (harg12.unread xs3) LS3) ∗ (∃ f, arg13.view.loc (c : Thread nD τ) ↦[arg13.view.set]{fullShare} arg13.view.writes (Elt F) f LS4)) -∗ K ⟨⟩))
          ⊢ wp frame (wpE (defs₀ (F := F)) Variants.none c none) E (cc0_w8a8_requant i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], [], [], [], ?_, ?_, ?_, fun xs3 xi4 xi5 xi6 xi7 E K => ?run⟩
  case run =>
    simp only [cc0_w8a8_requant_eq_skeleton]; unfold cc0_w8a8_requant_skel
    simp only [k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg12.eq_unread hfs3; obtain rfl := harg2.eq_unread hf1; obtain rfl := harg3.eq_unread hf2; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg13.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexact HS3
    iexists _; iexact HS4

end Cert.KernelIdeal.Hand

end
-- ==== Proof.KernelIdeal.RunC.lean ====
/- The body's run in case C. -/
module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1200000 in
/-- The body's run in case C (the last point): the pieces its stores leave in each output's staging buffer and in each
    scratch buffer (last first), with the proof that the body runs to a continuation holding the buffers with those
    pieces written, the inputs and every buffer it does not store into as they were. -/
noncomputable def kernelRun0_C (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : ¬cond0_0 i) (hc1 : cond0_1 i)
    (x0 : Vec F S256x16384 .bf16) (x1 : Vec F S16384x512 .i8) (x2 : Vec F S1x512 .f32) (xs0 : Vec F S256x16384 .bf16) (xs1 : Vec F S256x128 .f32) (xs4 : Vec F S256x128 .f32) :
    Σ' (L3 : List (View.Piece (Elt F) S256x512 .bf16)), Σ' (L4 : List (View.Piece (Elt F) S256x16384 .i8)), Σ' (L5 : List (View.Piece (Elt F) S2x128 .f32)), Σ' (X13 : BufTy.Contents (Elt F) arg13.view.ty), Σ' (L7 : List (View.Piece (Elt F) S2x128 .f32)), Σ' (LS0 : List (View.Piece (Elt F) S256x16384 .bf16)), Σ' (LS1 : List (View.Piece (Elt F) S256x128 .f32)), Σ' (LS3 : List (View.Piece (Elt F) S256x6144 .f32)), Σ' (LS4 : List (View.Piece (Elt F) S256x128 .f32)), { LT2 : List (View.Piece (Elt F) S256x512 .i32) //
      ∀ (xs3 : Vec F S256x6144 .f32) (xi4 : Vec F S256x16384 .i8) (xi5 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ (∃ d, owns (c : Thread nD τ) arg11 fullShare d) ∗ owns (c : Thread nD τ) arg12 fullShare xs3 ∗ owns (c : Thread nD τ) arg13 fullShare xs4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ (∃ f, arg7.view.loc (c : Thread nD τ) ↦[arg7.view.set]{fullShare} arg7.view.writes (Elt F) f (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 hc1 (arg12.view.writes (Elt F) (harg12.unread xs3) LS3) X13 (Scf.trips k0_t2_loop.lb k0_t2_loop.ub k0_t2_loop.st))) ∗ (∃ f, arg8.view.loc (c : Thread nD τ) ↦[arg8.view.set]{fullShare} arg8.view.writes (Elt F) f L7) ∗ owns (c : Thread nD τ) arg9 fullShare xs0 ∗ owns (c : Thread nD τ) arg10 fullShare xs1 ∗ (∃ f, arg11.view.loc (c : Thread nD τ) ↦[arg11.view.set]{fullShare} arg11.view.writes (Elt F) f LT2) ∗ (arg12.view.loc (c : Thread nD τ) ↦[arg12.view.set]{fullShare} arg12.view.writes (Elt F) (harg12.unread xs3) LS3) ∗ (∃ f, arg13.view.loc (c : Thread nD τ) ↦[arg13.view.set]{fullShare} arg13.view.writes (Elt F) f LS4)) -∗ K ⟨⟩))
          ⊢ wp frame (wpE (defs₀ (F := F)) Variants.none c none) E (cc0_w8a8_requant i arg1 harg1 arg2 harg2 arg3 harg3 arg4 harg4 arg5 harg5 arg6 harg6 arg7 harg7 arg8 harg8 arg9 harg9 arg10 harg10 arg11 harg11 arg12 harg12 arg13 harg13) K } := by
  refine ⟨?_, [], [], ?_, ?_, [], [], ?_, ?_, ?_, fun xs3 xi4 xi5 E K => ?run⟩
  case run =>
    simp only [cc0_w8a8_requant_eq_skeleton]; unfold cc0_w8a8_requant_skel
    simp only [k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, ⟨%fs3, %hfs3, HS3⟩, ⟨%fs4, %hfs4, HS4⟩, Hk⟩
    obtain rfl := harg1.eq_unread hf0; obtain rfl := harg6.eq_unread hf5; obtain rfl := harg5.eq_unread hf4; obtain rfl := harg12.eq_unread hfs3; obtain rfl := harg2.eq_unread hf1; obtain rfl := harg3.eq_unread hf2; obtain rfl := harg9.eq_unread hfs0; obtain rfl := harg10.eq_unread hfs1; obtain rfl := harg13.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexact HS3
    iexists _; iexact HS4

end Cert.KernelIdeal.Hand

end
-- ==== Proof.KernelIdeal.Cover.lean ====
/- The body's runs at a grid point: what the stores cover, and the scratch filled block by block. -/
module

public import proofs.«01_k».proof.Proof.KernelIdeal.RunC
public import Idealize.ShloMosaic.Lib.WritesUnit

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

local notation "𝕄" => MT nD τ sig Unit (Elt F) ℕ (UR sig nD τ) ℕ

variable (m : (ℓ : Loc nD τ sig) → Buf (Elt F) ℓ) (ρ : Dev nD → PrngReg)

/-! ## The three runs at a grid point's buffers -/

/-- The body's run in case A at point `t`'s staging buffers and the kernel's scratch buffers. -/
abbrev runA (c : Dev nD) (t : Fin cfg0.N) (h0 : cond0_0 (grid0.coords t)) (h1 : ¬cond0_1 (grid0.coords t)) (x0 : Vec F S256x16384 .bf16) (x1 : Vec F S16384x512 .i8) (x2 : Vec F S1x512 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 h1 x0 x1 x2

/-- The body's run in case B at point `t`'s staging buffers and the kernel's scratch buffers. -/
abbrev runB (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 h1 x0 x1 x2 q s a

/-- The body's run in case C at point `t`'s staging buffers and the kernel's scratch buffers. -/
abbrev runC (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 h1 x0 x1 x2 q s a

/-- In case A the pieces stored cover the output block. -/
theorem coverA_y (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x512.Idx) :
    ∃ pc ∈ (runA c t h0 h1 x0 x1 x2).1, i ∈ pc.1.set :=
  View.cover_of_tiledL (runA c t h0 h1 x0 x1 x2).1 S256x512.size (by sl_kernel_rfl) i

/-- In case A the pieces stored cover the codes of the rows. -/
theorem coverA_xc (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x16384.Idx) :
    ∃ pc ∈ (runA c t h0 h1 x0 x1 x2).2.1, i ∈ pc.1.set :=
  View.cover_of_tiledL (runA c t h0 h1 x0 x1 x2).2.1 S256x1024.size (by sl_kernel_rfl) i

/-- In case A the pieces stored cover the scales of the rows. -/
theorem coverA_xs (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S2x128.Idx) :
    ∃ pc ∈ (runA c t h0 h1 x0 x1 x2).2.2.1, i ∈ pc.1.set :=
  View.cover_of_tiledL (runA c t h0 h1 x0 x1 x2).2.2.1 S1x128.size (by sl_kernel_rfl) i

/-- In case A the pieces stored cover the scratch holding the codes. -/
theorem coverA_q (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x16384.Idx) :
    ∃ pc ∈ (runA c t h0 h1 x0 x1 x2).2.2.2.2.2.1, i ∈ pc.1.set :=
  View.cover_of_tiledL (runA c t h0 h1 x0 x1 x2).2.2.2.2.2.1 S256x1024.size (by sl_kernel_rfl) i

/-- In case A the pieces stored cover the scratch holding the scales. -/
theorem coverA_s (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x128.Idx) :
    ∃ pc ∈ (runA c t h0 h1 x0 x1 x2).2.2.2.2.2.2.1, i ∈ pc.1.set :=
  View.cover_of_tiledL (runA c t h0 h1 x0 x1 x2).2.2.2.2.2.2.1 S256x128.size (by sl_kernel_rfl) i

/-- In case A the pieces stored cover the scratch holding the running maximum. -/
theorem coverA_a (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (i : S256x128.Idx) :
    ∃ pc ∈ (runA c t h0 h1 x0 x1 x2).2.2.2.2.2.2.2.2.1, i ∈ pc.1.set :=
  View.cover_of_tiledL (runA c t h0 h1 x0 x1 x2).2.2.2.2.2.2.2.2.1 S256x128.size (by sl_kernel_rfl) i

/-- In case B the pieces stored cover the output block. -/
theorem coverB_y (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x512.Idx) :
    ∃ pc ∈ (runB c t h0 h1 x0 x1 x2 q s a).1, i ∈ pc.1.set :=
  View.cover_of_tiledL (runB c t h0 h1 x0 x1 x2 q s a).1 S256x512.size (by sl_kernel_rfl) i

/-- In case B the pieces stored cover the scratch holding the running maximum. -/
theorem coverB_a (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x128.Idx) :
    ∃ pc ∈ (runB c t h0 h1 x0 x1 x2 q s a).2.2.2.2.2.2.2.2.1, i ∈ pc.1.set :=
  View.cover_of_tiledL (runB c t h0 h1 x0 x1 x2 q s a).2.2.2.2.2.2.2.2.1 S256x128.size (by sl_kernel_rfl) i

/-- In case C the pieces stored cover the output block. -/
theorem coverC_y (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x512.Idx) :
    ∃ pc ∈ (runC c t h0 h1 x0 x1 x2 q s a).1, i ∈ pc.1.set :=
  View.cover_of_tiledL (runC c t h0 h1 x0 x1 x2 q s a).1 S256x512.size (by sl_kernel_rfl) i

/-- In case C the pieces stored cover the scales of the result. -/
theorem coverC_ys (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S2x128.Idx) :
    ∃ pc ∈ (runC c t h0 h1 x0 x1 x2 q s a).2.2.2.2.1, i ∈ pc.1.set :=
  View.cover_of_tiledL (runC c t h0 h1 x0 x1 x2 q s a).2.2.2.2.1 S1x128.size (by sl_kernel_rfl) i

/-- In case C the pieces stored cover the scratch holding the running maximum. -/
theorem coverC_a (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (i : S256x128.Idx) :
    ∃ pc ∈ (runC c t h0 h1 x0 x1 x2 q s a).2.2.2.2.2.2.2.2.1, i ∈ pc.1.set :=
  View.cover_of_tiledL (runC c t h0 h1 x0 x1 x2 q s a).2.2.2.2.2.2.2.2.1 S256x128.size (by sl_kernel_rfl) i

/-! ## The scratch filled block by block -/

/-- Block `t` of the scratch `arg12` begins at column `512 t`. -/
theorem off2_eq : ∀ t : Fin cfg0.N, k0_off2 (grid0.coords t) = ![0, 512 * t.val] := by decide +kernel

/-- The scratch `arg12` after a store of the point's block over contents `X`. -/
def put12 (X : Vec F S256x6144 .f32) (L : List (View.Piece (Elt F) S256x6144 .f32)) : Vec F S256x6144 .f32 :=
  VS0_3.read (Elt F) (VS0_3.writes (Elt F) ((Memref.isWhole_whole _ : scM0_3.IsWhole).unread X) L)

/-- The list of one store of a whole block at point `t`. -/
def Blk (t : Fin cfg0.N) (L : List (View.Piece (Elt F) S256x6144 .f32)) : Prop :=
  ∃ w : Vec F S256x512 .f32, L = [⟨Rect.unit (k0_off2 (grid0.coords t)) S256x512.size (k0_off2_inb (grid0.coords t)), w⟩]

/-- At the first point the stores into the scratch result are the one block of that point. -/
theorem blkA (c : Dev nD) (t : Fin cfg0.N) (h0 : cond0_0 (grid0.coords t)) (h1 : ¬cond0_1 (grid0.coords t)) (x0 : Vec F S256x16384 .bf16) (x1 : Vec F S16384x512 .i8) (x2 : Vec F S1x512 .f32) :
    Blk t (runA c t h0 h1 x0 x1 x2).2.2.2.2.2.2.2.1 := ⟨_, rfl⟩

/-- At the middle point the stores into the scratch result are the one block of that point. -/
theorem blkB (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (q : Vec F S256x16384 .bf16) (s : Vec F S256x128 .f32) (a : Vec F S256x128 .f32) :
    Blk t (runB c t h0 h1 x0 x1 x2 q s a).2.2.2.2.2.2.2.1 := ⟨_, rfl⟩

/-- At the last point the stores into the scratch result are the one block of that point. -/
theorem blkC (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) :
    Blk t (runC c t h0 h1 x0 x1 x2 q s a).2.2.2.2.2.2.2.1 := ⟨_, rfl⟩

/-- Contents that agree on the first `512 t` columns agree on the first `512 (t + 1)` after the store of block `t`. -/
theorem put12_agree (t : Fin cfg0.N) (L : List (View.Piece (Elt F) S256x6144 .f32)) (hL : Blk t L) (X Y : Vec F S256x6144 .f32)
    (h : ∀ i : S256x6144.Idx, (i 1).val < 512 * t.val → X i = Y i) (i : S256x6144.Idx) (hi : (i 1).val < 512 * (t.val + 1)) :
    put12 X L i = put12 Y L i := by
  obtain ⟨w, rfl⟩ := hL
  unfold put12
  rw [View.read_writes_cons_unit (heq := off2_eq t), View.read_writes_cons_unit (heq := off2_eq t)]
  split
  · rfl
  · rename_i hn
    simp only [View.writes_nil]
    rw [Memref.IsWhole.read_unread (m := scM0_3), Memref.IsWhole.read_unread (m := scM0_3)]
    apply h
    by_contra hc
    apply hn
    intro a
    fin_cases a
    · exact ⟨Nat.zero_le _, (i 0).isLt⟩
    · exact ⟨by simpa using hc, by simp at hi ⊢; omega⟩

/-- What the last point's code output holds, as pieces, from the contents `X` of `arg12` after the store. -/
def codesL (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (X : Vec F S256x6144 .f32) : List (View.Piece (Elt F) S256x6144 .i8) :=
  pb_k0_t2 (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h1 ((Memref.isWhole_whole _ : scM0_3.IsWhole).unread X) (runC c t h0 h1 x0 x1 x2 q s a).2.2.2.1 (Scf.trips k0_t2_loop.lb k0_t2_loop.ub k0_t2_loop.st)

/-- The pieces stored cover the codes of the result. -/
theorem coverC_yc (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (X : Vec F S256x6144 .f32) (i : S256x6144.Idx) :
    ∃ pc ∈ codesL c t h0 h1 x0 x1 x2 q s a X, i ∈ pc.1.set :=
  View.cover_of_tiledL (codesL c t h0 h1 x0 x1 x2 q s a X) S256x1024.size (by sl_kernel_rfl) i

/-- The raw contents of `arg12` after the store, from what it reads. -/
theorem raw12 (X : Vec F S256x6144 .f32) (L : List (View.Piece (Elt F) S256x6144 .f32)) :
    VS0_3.writes (Elt F) ((Memref.isWhole_whole _ : scM0_3.IsWhole).unread X) L = (Memref.isWhole_whole _ : scM0_3.IsWhole).unread (put12 X L) :=
  ((Memref.isWhole_whole _ : scM0_3.IsWhole).unread_read _).symm

end Cert.KernelIdeal.Hand

end
-- ==== Proof.KernelIdeal.Track.lean ====
/- The pipeline's proof data, the body's obligation at every point, the launch and the frame. -/
module

public import proofs.«01_k».proof.Proof.KernelIdeal.Cover
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs and the scratch hold after each point -/

variable (F) in
/-- The contents of the outputs' staging buffers and of the scratch buffers that the kernel carries from point to point. -/
structure St where
  /-- The point's block of the result. -/
  y : Vec F S256x512 .bf16
  /-- The codes of the rows. -/
  xc : Vec F S256x16384 .i8
  /-- The scales of the rows. -/
  xs : Vec F S2x128 .f32
  /-- The codes of the result. -/
  yc : Vec F S256x6144 .i8
  /-- The scales of the result. -/
  ys : Vec F S2x128 .f32
  /-- The scratch `arg9`: the codes as bf16. -/
  q : Vec F S256x16384 .bf16
  /-- The scratch `arg10`: the scales of the rows. -/
  s : Vec F S256x128 .f32
  /-- The scratch `arg12`: the result, block by block. -/
  Y : Vec F S256x6144 .f32
  /-- The scratch `arg13`: the running maximum. -/
  a : Vec F S256x128 .f32

/-- What the first point leaves. -/
def stA (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : St F where
  y := View.canon (runA c t h0 h1 x0 x1 x2).1
  xc := View.canon (runA c t h0 h1 x0 x1 x2).2.1
  xs := View.canon (runA c t h0 h1 x0 x1 x2).2.2.1
  yc := View.canon []
  ys := View.canon []
  q := View.canon (runA c t h0 h1 x0 x1 x2).2.2.2.2.2.1
  s := View.canon (runA c t h0 h1 x0 x1 x2).2.2.2.2.2.2.1
  Y := put12 X (runA c t h0 h1 x0 x1 x2).2.2.2.2.2.2.2.1
  a := View.canon (runA c t h0 h1 x0 x1 x2).2.2.2.2.2.2.2.2.1

/-- What a point between leaves, over what the point before left. -/
def stB (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) : St F where
  y := View.canon (runB c t h0 h1 x0 x1 x2 p.q p.s p.a).1
  xc := p.xc
  xs := p.xs
  yc := View.canon []
  ys := View.canon []
  q := p.q
  s := p.s
  Y := put12 p.Y (runB c t h0 h1 x0 x1 x2 p.q p.s p.a).2.2.2.2.2.2.2.1
  a := View.canon (runB c t h0 h1 x0 x1 x2 p.q p.s p.a).2.2.2.2.2.2.2.2.1

/-- What the last point leaves, over what the point before left. -/
def stC (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : St F where
  y := View.canon (runC c t h0 h1 x0 x1 x2 p.q p.s p.a).1
  xc := p.xc
  xs := p.xs
  yc := View.canon (codesL c t h0 h1 x0 x1 x2 p.q p.s p.a (put12 p.Y (runC c t h0 h1 x0 x1 x2 p.q p.s p.a).2.2.2.2.2.2.2.1))
  ys := View.canon (runC c t h0 h1 x0 x1 x2 p.q p.s p.a).2.2.2.2.1
  q := p.q
  s := p.s
  Y := put12 p.Y (runC c t h0 h1 x0 x1 x2 p.q p.s p.a).2.2.2.2.2.2.2.1
  a := View.canon (runC c t h0 h1 x0 x1 x2 p.q p.s p.a).2.2.2.2.2.2.2.2.1

/-- The first point is the one where the first branch is taken, -/
theorem first_of (t : Fin cfg0.N) (h : t.val = 0) : cond0_0 (grid0.coords t) ∧ ¬cond0_1 (grid0.coords t) :=
  ⟨(hcond0_0 t).mpr (by omega), fun e => by have := (hcond0_1 t).mp e; omega⟩
/-- the last point the one where the second is, -/
theorem last_of (t : Fin cfg0.N) (h : t.val = 11) : ¬cond0_0 (grid0.coords t) ∧ cond0_1 (grid0.coords t) :=
  ⟨fun e => by have := (hcond0_0 t).mp e; omega, (hcond0_1 t).mpr (by omega)⟩
/-- and at the points between neither is. -/
theorem mid_of (t : Fin cfg0.N) (h : t.val ≠ 0) (h' : t.val ≠ 11) : ¬cond0_0 (grid0.coords t) ∧ ¬cond0_1 (grid0.coords t) := by
  have hN : t.val < 12 := lt_of_lt_of_eq t.isLt (show cfg0.N = 12 from N_0)
  exact ⟨fun e => by have := (hcond0_0 t).mp e; omega, fun e => by have := (hcond0_1 t).mp e; omega⟩

/-- What the outputs and the scratch hold after the body at position `n`. -/
def stAt (c : Dev nD) : (n : ℕ) → n < cfg0.N → St F
  | 0, hn => stA c ⟨0, hn⟩ (first_of ⟨0, hn⟩ rfl).1 (first_of ⟨0, hn⟩ rfl).2 (iblk m c 0 ⟨0, hn⟩) (iblk m c 1 ⟨0, hn⟩) (iblk m c 2 ⟨0, hn⟩) (View.canon [])
  | n + 1, hn =>
    if h : n + 1 = 11 then
      stC c ⟨n + 1, hn⟩ (last_of ⟨n + 1, hn⟩ h).1 (last_of ⟨n + 1, hn⟩ h).2 (iblk m c 0 ⟨n + 1, hn⟩) (iblk m c 1 ⟨n + 1, hn⟩) (iblk m c 2 ⟨n + 1, hn⟩) (stAt c n (Nat.lt_of_succ_lt hn))
    else
      stB c ⟨n + 1, hn⟩ (mid_of ⟨n + 1, hn⟩ (Nat.succ_ne_zero n) h).1 (mid_of ⟨n + 1, hn⟩ (Nat.succ_ne_zero n) h).2 (iblk m c 0 ⟨n + 1, hn⟩) (iblk m c 1 ⟨n + 1, hn⟩) (iblk m c 2 ⟨n + 1, hn⟩) (stAt c n (Nat.lt_of_succ_lt hn))

/-- The position before a point that is not the first. -/
abbrev prev (c : Dev nD) (t : Fin cfg0.N) : St F := stAt m c (t.val - 1) (Nat.lt_of_le_of_lt (Nat.sub_le _ _) t.isLt)

/-- The state after the first point is what the body leaves there. -/
theorem stAt_A (c : Dev nD) (t : Fin cfg0.N) (h : t.val = 0) :
    stAt m c t.val t.isLt = stA c t (first_of t h).1 (first_of t h).2 (iblk m c 0 t) (iblk m c 1 t) (iblk m c 2 t) (View.canon []) := by
  obtain ⟨n, hn⟩ := t
  cases n with
  | zero => rfl
  | succ n => exact absurd h (Nat.succ_ne_zero n)
/-- The state after the middle point is what the body leaves there, started from the state of the point before. -/
theorem stAt_B (c : Dev nD) (t : Fin cfg0.N) (h : t.val ≠ 0) (h' : t.val ≠ 11) :
    stAt m c t.val t.isLt = stB c t (mid_of t h h').1 (mid_of t h h').2 (iblk m c 0 t) (iblk m c 1 t) (iblk m c 2 t) (prev m c t) := by
  obtain ⟨n, hn⟩ := t
  cases n with
  | zero => exact absurd rfl h
  | succ n => exact dif_neg h'
/-- The state after the last point is what the body leaves there, started from the state of the point before. -/
theorem stAt_C (c : Dev nD) (t : Fin cfg0.N) (h : t.val = 11) :
    stAt m c t.val t.isLt = stC c t (last_of t h).1 (last_of t h).2 (iblk m c 0 t) (iblk m c 1 t) (iblk m c 2 t) (prev m c t) := by
  obtain ⟨n, hn⟩ := t
  cases n with
  | zero => exact absurd h (by simp)
  | succ n => exact dif_pos h

/-- A middle point leaves the written input codes and scales as they were. -/
theorem stB_keep (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) :
    (stB c t h0 h1 x0 x1 x2 p).xc = p.xc ∧ (stB c t h0 h1 x0 x1 x2 p).xs = p.xs := by
  unfold stB; dsimp only; exact ⟨rfl, rfl⟩
/-- The last point leaves the written input codes and scales as they were. -/
theorem stC_keep (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) :
    (stC c t h0 h1 x0 x1 x2 p).xc = p.xc ∧ (stC c t h0 h1 x0 x1 x2 p).xs = p.xs := by
  unfold stC; dsimp only; exact ⟨rfl, rfl⟩

/-- The codes and the scales of the rows are kept from point to point. -/
theorem stAt_keep (c : Dev nD) (t : Fin cfg0.N) (h : t.val ≠ 0) :
    (stAt m c t.val t.isLt).xc = (prev m c t).xc ∧ (stAt m c t.val t.isLt).xs = (prev m c t).xs := by
  by_cases h' : t.val = 11
  · rw [stAt_C m c t h']; exact stC_keep ..
  · rw [stAt_B m c t h h']; exact stB_keep ..

/-! ## The invariant and the proof data -/

/-- Two contents of `arg12` agree on the columns below `k`. -/
def Agree (k : ℕ) (X Y : Vec F S256x6144 .f32) : Prop := ∀ i : S256x6144.Idx, (i 1).val < k → X i = Y i

/-- The invariant before position `n`: before the first point every scratch at anything; afterwards the carried
    scratch at what the point before left, `arg12` on the columns filled so far. -/
def PhiS (c : Dev nD) : (n : ℕ) → n ≤ cfg0.N → sProp 𝕄
  | 0, _ => Pipeline.ΦA spec0 c
  | n + 1, hn => iprop(iprop(owns (c : Thread nD τ) scM0_0 fullShare (stAt m c n hn).q ∗ owns (c : Thread nD τ) scM0_1 fullShare (stAt m c n hn).s ∗ (∃ d, owns (c : Thread nD τ) scM0_2 fullShare d) ∗ (∃ X, ⌜Agree (512 * (n + 1)) X (stAt m c n hn).Y⌝ ∗ owns (c : Thread nD τ) scM0_3 fullShare X) ∗ owns (c : Thread nD τ) scM0_4 fullShare (stAt m c n hn).a) ∗ (∃ r, prngReg c r))

/-- Before the first point the invariant owns the scratches at any contents. -/
theorem PhiS_zero (c : Dev nD) (n : ℕ) (h : n ≤ cfg0.N) (hz : n = 0) : PhiS m c n h = Pipeline.ΦA spec0 c := by
  subst hz; rfl
/-- After a point the invariant owns the scratches at the state that point leaves. -/
theorem PhiS_succ (c : Dev nD) (n : ℕ) (hn : n < cfg0.N) :
    PhiS m c (n + 1) hn = iprop(iprop(owns (c : Thread nD τ) scM0_0 fullShare (stAt m c n hn).q ∗ owns (c : Thread nD τ) scM0_1 fullShare (stAt m c n hn).s ∗ (∃ d, owns (c : Thread nD τ) scM0_2 fullShare d) ∗ (∃ X, ⌜Agree (512 * (n + 1)) X (stAt m c n hn).Y⌝ ∗ owns (c : Thread nD τ) scM0_3 fullShare X) ∗ owns (c : Thread nD τ) scM0_4 fullShare (stAt m c n hn).a) ∗ (∃ r, prngReg c r)) := rfl
/-- Before a point that is not the first, the invariant owns the scratches at the state of the point before. -/
theorem PhiS_pos (c : Dev nD) (t : Fin cfg0.N) (hz : t.val ≠ 0) :
    PhiS m c t.val (Nat.le_of_lt t.isLt) = iprop(iprop(owns (c : Thread nD τ) scM0_0 fullShare (prev m c t).q ∗ owns (c : Thread nD τ) scM0_1 fullShare (prev m c t).s ∗ (∃ d, owns (c : Thread nD τ) scM0_2 fullShare d) ∗ (∃ X, ⌜Agree (512 * t.val) X (prev m c t).Y⌝ ∗ owns (c : Thread nD τ) scM0_3 fullShare X) ∗ owns (c : Thread nD τ) scM0_4 fullShare (prev m c t).a) ∗ (∃ r, prngReg c r)) := by
  obtain ⟨n, hn⟩ := t
  cases n with
  | zero => exact absurd rfl hz
  | succ n => rfl

/-- The proof data of the pipeline on core `c`: the arrays as the region finds them; after the body each input's buffer
    at its block and the outputs' at `stAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).y
    | ⟨4, _⟩ => (stAt m c t.val t.isLt).xc
    | ⟨5, _⟩ => (stAt m c t.val t.isLt).xs
    | ⟨6, _⟩ => (stAt m c t.val t.isLt).yc
    | ⟨7, _⟩ => (stAt m c t.val t.isLt).ys
  Φ t := PhiS m c t.val (Nat.le_of_lt_succ t.isLt)
  q _ := fullShare
  owed _ := 0

/-- The array a window starts from is the one in memory before the launch. -/
theorem A_eq (c : Dev nD) (w : Fin cfg0.W) : (dats m 0 c).A w = V m c (Pipeline.arrRef spec0 w) := by
  dsimp only [dats]
/-- The invariant of the proof data before a point is the one stated above. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
/-- A point leaves the window of the input rows at its own block. -/
theorem after0_0 (c : Dev nD) (t : Fin cfg0.N) : (dats m 0 c).after 0 t = iblk m c 0 t := by dsimp only [dats]
/-- A point leaves the window of the weight block at its own block. -/
theorem after0_1 (c : Dev nD) (t : Fin cfg0.N) : (dats m 0 c).after 1 t = iblk m c 1 t := by dsimp only [dats]
/-- A point leaves the window of the weight scale block at its own block. -/
theorem after0_2 (c : Dev nD) (t : Fin cfg0.N) : (dats m 0 c).after 2 t = iblk m c 2 t := by dsimp only [dats]
/-- A point leaves the window of the result block at what the state records. -/
theorem after0_3 (c : Dev nD) (t : Fin cfg0.N) : (dats m 0 c).after 3 t = (stAt m c t.val t.isLt).y := by dsimp only [dats]
/-- A point leaves the window of the input codes at what the state records. -/
theorem after0_4 (c : Dev nD) (t : Fin cfg0.N) : (dats m 0 c).after 4 t = (stAt m c t.val t.isLt).xc := by dsimp only [dats]
/-- A point leaves the window of the input scales at what the state records. -/
theorem after0_5 (c : Dev nD) (t : Fin cfg0.N) : (dats m 0 c).after 5 t = (stAt m c t.val t.isLt).xs := by dsimp only [dats]
/-- A point leaves the window of the result codes at what the state records. -/
theorem after0_6 (c : Dev nD) (t : Fin cfg0.N) : (dats m 0 c).after 6 t = (stAt m c t.val t.isLt).yc := by dsimp only [dats]
/-- A point leaves the window of the result scales at what the state records. -/
theorem after0_7 (c : Dev nD) (t : Fin cfg0.N) : (dats m 0 c).after 7 t = (stAt m c t.val t.isLt).ys := by dsimp only [dats]
/-- A point finds the block of the input rows in its window. -/
theorem before0_0 (c : Dev nD) (t : Fin cfg0.N) (d) : (dats m 0 c).before 0 t d = iblk m c 0 t :=
  before0_0_of m (dats m 0 c) (A_eq m c 0) (after0_0 m c) t d
/-- A point finds the block of the weight block in its window. -/
theorem before0_1 (c : Dev nD) (t : Fin cfg0.N) (d) : (dats m 0 c).before 1 t d = iblk m c 1 t :=
  before0_1_of m (dats m 0 c) (A_eq m c 1) (after0_1 m c) t d
/-- A point finds the block of the weight scale block in its window. -/
theorem before0_2 (c : Dev nD) (t : Fin cfg0.N) (d) : (dats m 0 c).before 2 t d = iblk m c 2 t :=
  before0_2_of m (dats m 0 c) (A_eq m c 2) (after0_2 m c) t d

/-- After the first point the codes' buffer holds what the point before left. -/
theorem before0_4 (c : Dev nD) (t : Fin cfg0.N) (h : t.val ≠ 0) (d) : (dats m 0 c).before 4 t d = (prev m c t).xc := by
  rw [(dats m 0 c).before_out_traj 4 rfl (fun _ _ => rfl) (fun t ht _ _ => by
    rw [after0_4, after0_4]; exact (stAt_keep m c t ht).1) t.val t rfl d, fresh0_4, after0_4]
  simp only [h, decide_false, Bool.false_eq_true, if_false]
/-- And so does the scales' buffer. -/
theorem before0_5 (c : Dev nD) (t : Fin cfg0.N) (h : t.val ≠ 0) (d) : (dats m 0 c).before 5 t d = (prev m c t).xs := by
  rw [(dats m 0 c).before_out_traj 5 rfl (fun _ _ => rfl) (fun t ht _ _ => by
    rw [after0_5, after0_5]; exact (stAt_keep m c t ht).2) t.val t rfl d, fresh0_5, after0_5]
  simp only [h, decide_false, Bool.false_eq_true, if_false]

/-- A buffer whose contents read `X` is owned at `X`. -/
theorem owns_at (c : Dev nD) {sp : Space} {sh : Shape} {e : EltTy} (M : Memref sig .tc sp sh e) (f) (X : Vec F sh e) (h : M.view.read (Elt F) f = X) :
    (M.view.loc (c : Thread nD τ) ↦[M.view.set]{fullShare} f : sProp 𝕄) ⊢ owns (c : Thread nD τ) M fullShare X := by
  unfold owns
  iintro H
  iexists _
  isplitr
  swap
  · iexact H
  ipureintro
  exact h

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body's triple in case A. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_A t (first_of t h).1 (first_of t h).2], after0_4]
  rw [show (dats m 0 c).leavesExact 5 t = owns (c : Thread nD τ) (ms0_5 t) fullShare ((dats m 0 c).after 5 t) from by
    unfold Dat.leavesExact; rw [liveAt0_5_A t (first_of t h).1 (first_of t h).2], after0_5]
  rw [Dat.leavesExact_idle (dats m 0 c) 6 t (idleAt0_6_A t (first_of t h).1 (first_of t h).2) (noFlush0_6_A t (first_of t h).1 (first_of t h).2)]
  rw [Dat.leavesExact_idle (dats m 0 c) 7 t (idleAt0_7_A t (first_of t h).1 (first_of t h).2) (noFlush0_7_A t (first_of t h).1 (first_of t h).2)]
  rw [PhiS_castSucc m c t, PhiS_zero m c _ _ h, PhiA0_eq]
  rw [stAt_A m c t h]
  unfold stA; dsimp only
  iintro ⟨⟨⟨HS0, HS1, HS2, ⟨%X, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c t (first_of t h).1 (first_of t h).2 (iblk m c 0 t) (iblk m c 1 t) (iblk m c 2 t)).2.2.2.2.2.2.2.2.2.2 X _ _ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, ⟨%e4, H4⟩, ⟨%e5, H5⟩, H6, H7, ⟨%es0, HS0⟩, ⟨%es1, HS1⟩, HS2, HS3, ⟨%es4, HS4⟩⟩
  isplitl [HS0 HS1 HS2 HS3 HS4 Hg]
  · isplitl [HS0 HS1 HS2 HS3 HS4]
    · isplitl [HS0]
      · iapply (owns_at c scM0_0 _ _ (View.read_writes_eq_canon _ _ _ (coverA_q c t _ _ _ _ _))); iexact HS0
      isplitl [HS1]
      · iapply (owns_at c scM0_1 _ _ (View.read_writes_eq_canon _ _ _ (coverA_s c t _ _ _ _ _))); iexact HS1
      isplitl [HS2]; · iexact HS2
      isplitl [HS3]
      · iexists (put12 X (runA c t (first_of t h).1 (first_of t h).2 (iblk m c 0 t) (iblk m c 1 t) (iblk m c 2 t)).2.2.2.2.2.2.2.1); isplitr
        · ipureintro; exact put12_agree t _ (blkA c t _ _ _ _ _) X _ (fun i hi => absurd hi (by omega))
        iapply (owns_at c scM0_3 _ _ rfl); iexact HS3
      iapply (owns_at c scM0_4 _ _ (View.read_writes_eq_canon _ _ _ (coverA_a c t _ _ _ _ _))); iexact HS4
    iexact Hg
  isplitl [Ho]; · iexact Ho
  isplitl [H0]; · iexact H0
  isplitl [H1]; · iexact H1
  isplitl [H2]; · iexact H2
  isplitl [H3]
  · iapply (owns_at c (ms0_3 t) _ _ (View.read_writes_eq_canon _ _ _ (coverA_y c t _ _ _ _ _))); iexact H3
  isplitl [H4]
  · iapply (owns_at c (ms0_4 t) _ _ (View.read_writes_eq_canon _ _ _ (coverA_xc c t _ _ _ _ _))); iexact H4
  isplitl [H5]
  · iapply (owns_at c (ms0_5 t) _ _ (View.read_writes_eq_canon _ _ _ (coverA_xs c t _ _ _ _ _))); iexact H5
  isplitl [H6]
  · iexists _; iexact H6
  iexists _; iexact H7

set_option maxHeartbeats 4000000 in
/-- The body's triple in case B. -/
theorem sound_B (c : Dev nD) (t : Fin cfg0.N) (h : t.val ≠ 0) (h' : t.val ≠ 11) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_B t (mid_of t h h').1 (mid_of t h h').2) (noFlush0_4_B t (mid_of t h h').1 (mid_of t h h').2)]
  rw [Dat.leavesExact_idle (dats m 0 c) 5 t (idleAt0_5_B t (mid_of t h h').1 (mid_of t h h').2) (noFlush0_5_B t (mid_of t h h').1 (mid_of t h h').2)]
  rw [Dat.leavesExact_idle (dats m 0 c) 6 t (idleAt0_6_B t (mid_of t h h').1 (mid_of t h h').2) (noFlush0_6_B t (mid_of t h h').1 (mid_of t h h').2)]
  rw [Dat.leavesExact_idle (dats m 0 c) 7 t (idleAt0_7_B t (mid_of t h h').1 (mid_of t h h').2) (noFlush0_7_B t (mid_of t h h').1 (mid_of t h h').2)]
  rw [PhiS_castSucc m c t, PhiS_pos m c t h]
  rw [stAt_B m c t h h']
  unfold stB; dsimp only
  iintro ⟨⟨⟨HS0, HS1, HS2, ⟨%X, %hX, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c t (mid_of t h h').1 (mid_of t h h').2 (iblk m c 0 t) (iblk m c 1 t) (iblk m c 2 t) (prev m c t).q (prev m c t).s (prev m c t).a).2.2.2.2.2.2.2.2.2.2 X _ _ _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, H4, H5, H6, H7, HS0, HS1, ⟨%fT2, HS2⟩, HS3, ⟨%es4, HS4⟩⟩
  isplitl [HS0 HS1 HS2 HS3 HS4 Hg]
  · isplitl [HS0 HS1 HS2 HS3 HS4]
    · isplitl [HS0]
      · iexact HS0
      isplitl [HS1]; · iexact HS1
      isplitl [HS2]
      · iexists _; iapply (owns_at c scM0_2 _ _ rfl); iexact HS2
      isplitl [HS3]
      · iexists (put12 X (runB c t (mid_of t h h').1 (mid_of t h h').2 (iblk m c 0 t) (iblk m c 1 t) (iblk m c 2 t) (prev m c t).q (prev m c t).s (prev m c t).a).2.2.2.2.2.2.2.1); isplitr
        · ipureintro; exact put12_agree t _ (blkB c t _ _ _ _ _ _ _ _) X _ hX
        iapply (owns_at c scM0_3 _ _ rfl); iexact HS3
      iapply (owns_at c scM0_4 _ _ (View.read_writes_eq_canon _ _ _ (coverB_a c t _ _ _ _ _ _ _ _))); iexact HS4
    iexact Hg
  isplitl [Ho]; · iexact Ho
  isplitl [H0]; · iexact H0
  isplitl [H1]; · iexact H1
  isplitl [H2]; · iexact H2
  isplitl [H3]
  · iapply (owns_at c (ms0_3 t) _ _ (View.read_writes_eq_canon _ _ _ (coverB_y c t _ _ _ _ _ _ _ _))); iexact H3
  isplitl [H4]
  · iexists _; iexact H4
  isplitl [H5]
  · iexists _; iexact H5
  isplitl [H6]
  · iexists _; iexact H6
  iexists _; iexact H7

set_option maxHeartbeats 4000000 in
/-- The body's triple in case C. -/
theorem sound_C (c : Dev nD) (t : Fin cfg0.N) (h : t.val = 11) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [idleAt0_4_C t (last_of t h).1 (last_of t h).2, flush0_4_C t (last_of t h).1 (last_of t h).2], after0_4]
  rw [show (dats m 0 c).leavesExact 5 t = owns (c : Thread nD τ) (ms0_5 t) fullShare ((dats m 0 c).after 5 t) from by
    unfold Dat.leavesExact; rw [idleAt0_5_C t (last_of t h).1 (last_of t h).2, flush0_5_C t (last_of t h).1 (last_of t h).2], after0_5]
  rw [show (dats m 0 c).leavesExact 6 t = owns (c : Thread nD τ) (ms0_6 t) fullShare ((dats m 0 c).after 6 t) from by
    unfold Dat.leavesExact; rw [liveAt0_6_C t (last_of t h).1 (last_of t h).2], after0_6]
  rw [show (dats m 0 c).leavesExact 7 t = owns (c : Thread nD τ) (ms0_7 t) fullShare ((dats m 0 c).after 7 t) from by
    unfold Dat.leavesExact; rw [liveAt0_7_C t (last_of t h).1 (last_of t h).2], after0_7]
  rw [PhiS_castSucc m c t, PhiS_pos m c t (by omega)]
  simp only [before0_4 m c t (by omega), before0_5 m c t (by omega)]
  rw [stAt_C m c t h]
  unfold stC; dsimp only
  iintro ⟨⟨⟨HS0, HS1, HS2, ⟨%X, %hX, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c t (last_of t h).1 (last_of t h).2 (iblk m c 0 t) (iblk m c 1 t) (iblk m c 2 t) (prev m c t).q (prev m c t).s (prev m c t).a).2.2.2.2.2.2.2.2.2.2 X _ _ Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, H4, H5, ⟨%e6, H6⟩, ⟨%e7, H7⟩, HS0, HS1, ⟨%fT2, HS2⟩, HS3, ⟨%es4, HS4⟩⟩
  have hXC : put12 X (runC c t (last_of t h).1 (last_of t h).2 (iblk m c 0 t) (iblk m c 1 t) (iblk m c 2 t) (prev m c t).q (prev m c t).s (prev m c t).a).2.2.2.2.2.2.2.1
      = put12 (prev m c t).Y (runC c t (last_of t h).1 (last_of t h).2 (iblk m c 0 t) (iblk m c 1 t) (iblk m c 2 t) (prev m c t).q (prev m c t).s (prev m c t).a).2.2.2.2.2.2.2.1 := by
    funext i
    refine put12_agree t _ (blkC c t _ _ _ _ _ _ _ _) X _ hX i ?_
    have := (i 1).isLt
    have e : S256x6144.size 1 = 6144 := rfl
    omega
  have hyc : (ms0_6 t).view.read (Elt F) ((ms0_6 t).view.writes (Elt F) e6 (codesL c t (last_of t h).1 (last_of t h).2 (iblk m c 0 t) (iblk m c 1 t) (iblk m c 2 t) (prev m c t).q (prev m c t).s (prev m c t).a (put12 X (runC c t (last_of t h).1 (last_of t h).2 (iblk m c 0 t) (iblk m c 1 t) (iblk m c 2 t) (prev m c t).q (prev m c t).s (prev m c t).a).2.2.2.2.2.2.2.1)))
      = View.canon (codesL c t (last_of t h).1 (last_of t h).2 (iblk m c 0 t) (iblk m c 1 t) (iblk m c 2 t) (prev m c t).q (prev m c t).s (prev m c t).a (put12 (prev m c t).Y (runC c t (last_of t h).1 (last_of t h).2 (iblk m c 0 t) (iblk m c 1 t) (iblk m c 2 t) (prev m c t).q (prev m c t).s (prev m c t).a).2.2.2.2.2.2.2.1)) := by
    rw [hXC]
    exact View.read_writes_eq_canon _ _ _ (coverC_yc c t _ _ _ _ _ _ _ _ _)
  isplitl [HS0 HS1 HS2 HS3 HS4 Hg]
  · isplitl [HS0 HS1 HS2 HS3 HS4]
    · isplitl [HS0]
      · iexact HS0
      isplitl [HS1]; · iexact HS1
      isplitl [HS2]
      · iexists _; iapply (owns_at c scM0_2 _ _ rfl); iexact HS2
      isplitl [HS3]
      · iexists (put12 X (runC c t (last_of t h).1 (last_of t h).2 (iblk m c 0 t) (iblk m c 1 t) (iblk m c 2 t) (prev m c t).q (prev m c t).s (prev m c t).a).2.2.2.2.2.2.2.1); isplitr
        · ipureintro; exact fun i _ => congrFun hXC i
        iapply (owns_at c scM0_3 _ _ rfl); iexact HS3
      iapply (owns_at c scM0_4 _ _ (View.read_writes_eq_canon _ _ _ (coverC_a c t _ _ _ _ _ _ _ _))); iexact HS4
    iexact Hg
  isplitl [Ho]; · iexact Ho
  isplitl [H0]; · iexact H0
  isplitl [H1]; · iexact H1
  isplitl [H2]; · iexact H2
  isplitl [H3]
  · iapply (owns_at c (ms0_3 t) _ _ (View.read_writes_eq_canon _ _ _ (coverC_y c t _ _ _ _ _ _ _ _))); iexact H3
  isplitl [H4]
  · iexact H4
  isplitl [H5]
  · iexact H5
  isplitl [H6]
  · iapply (owns_at c (ms0_6 t) _ _ hyc); unfold codesL; rw [← raw12]; iexact H6
  iapply (owns_at c (ms0_7 t) _ _ (View.read_writes_eq_canon _ _ _ (coverC_ys c t _ _ _ _ _ _ _ _))); iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  · by_cases h' : t.val = 11
    · exact sound_C m c t h'
    · exact sound_B m c t h h'

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at anything. -/
theorem hout (c : Dev nD) : (dats m 0 c).Φ (Fin.last cfg0.N) ⊢ Pipeline.ΦA spec0 c := by
  rw [show (dats m 0 c).Φ (Fin.last cfg0.N) = PhiS m c (11 + 1) (by rw [show cfg0.N = 12 from N_0]) from rfl, PhiS_succ, PhiA0_eq]
  iintro ⟨⟨HS0, HS1, HS2, ⟨%X, %hX, HS3⟩, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexists _; iexact HS3
    iexists _; iexact HS4
  iexact Hg

/-! ## The run and the frame -/

set_option backward.isDefEq.respectTransparency.types false in
set_option maxHeartbeats 800000 in
/-- The launch: the run ends with every array at what the proof data computes and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Value.Math.lean ====
/- The arithmetic of the codes and of the integer dot products, over the extended reals. -/
module

public import Idealize.ShloMosaic.PureOps.Ideal
public import Idealize.ShloMosaic.PureOps.Ideal.Laws
public import Idealize.ShloMosaic.Lib.IdealHost
public import Mathlib.Data.EReal.Operations
public import Mathlib.Algebra.BigOperators.Fin
public import Mathlib.Data.BitVec

@[expose] public section

noncomputable section

namespace Cert.Value

open Idealize.ShloMosaic

/-- A value rounded to an integer and clipped to `[-127, 127]`. -/
def clipE (z : EReal) : EReal :=
  min (Ideal.ofBits .f32 0x42FE0000#32) (max (Ideal.ofBits .f32 0xC2FE0000#32) (Ideal.liftRound Ideal.roundHalfEven z))

/-- The bits of 127. -/
theorem ofBits_127 : Ideal.ofBits .f32 0x42FE0000#32 = (((127 : ℤ) : ℝ) : EReal) := by
  rw [show (((127 : ℤ) : ℝ) : EReal) = (((127 : ℝ) : ℝ) : EReal) by norm_num]
  simp [Ideal.ofBits, Ideal.ieee]
  norm_cast
  norm_num

/-- The bits of -127. -/
theorem ofBits_m127 : Ideal.ofBits .f32 0xC2FE0000#32 = (((-127 : ℤ) : ℝ) : EReal) := by
  rw [show (((-127 : ℤ) : ℝ) : EReal) = (((-127 : ℝ) : ℝ) : EReal) by norm_num]
  simp [Ideal.ofBits, Ideal.ieee]
  norm_cast
  norm_num

/-- The bits of minus infinity. -/
theorem ofBits_ninf : Ideal.ofBits .f32 0xFF800000#32 = ⊥ := by
  simp [Ideal.ofBits, Ideal.ieee]

/-- The smaller of two integers, taken before or after the cast. -/
theorem coe_min_int (a b : ℤ) : min ((a : ℝ) : EReal) ((b : ℝ) : EReal) = (((min a b : ℤ) : ℝ) : EReal) := by
  rw [Int.cast_min]; exact (EReal.coe_strictMono.monotone.map_min).symm
/-- The larger of two integers, taken before or after the cast. -/
theorem coe_max_int (a b : ℤ) : max ((a : ℝ) : EReal) ((b : ℝ) : EReal) = (((max a b : ℤ) : ℝ) : EReal) := by
  rw [Int.cast_max]; exact (EReal.coe_strictMono.monotone.map_max).symm

/-- The clipped value is an integer between -127 and 127, whatever the value. -/
theorem clipE_int (z : EReal) : ∃ n : ℤ, -127 ≤ n ∧ n ≤ 127 ∧ clipE z = ((n : ℝ) : EReal) := by
  unfold clipE
  rw [ofBits_127, ofBits_m127]
  induction z with
  | bot => exact ⟨-127, by omega, by omega, by rw [Ideal.liftRound_bot, max_eq_left bot_le, coe_min_int]; norm_num⟩
  | top => exact ⟨127, by omega, by omega, by rw [Ideal.liftRound_top, max_eq_right le_top, min_eq_left le_top]⟩
  | coe r => exact ⟨min 127 (max (-127) (Ideal.roundHalfEven r)), by omega, by omega, by rw [Ideal.liftRound_coe, coe_max_int, coe_min_int]⟩

/-- An integer of the range converts to its word. -/
theorem fptosi_int (w : ℕ) (n : ℤ) (h1 : -((2 ^ (w - 1) : ℕ) : ℤ) ≤ n) (h2 : n ≤ ((2 ^ (w - 1) : ℕ) : ℤ) - 1) :
    Ideal.fptosi w ((n : ℝ) : EReal) = BitVec.ofInt w n := by
  unfold Ideal.fptosi
  rw [Ideal.toIntClamped_coe]
  congr 1
  have : (if (0 : ℝ) ≤ (n : ℝ) then ⌊(n : ℝ)⌋ else ⌈(n : ℝ)⌉) = n := by simp
  rw [this]
  omega

/-- The code of a value, read back, is the clipped value. -/
theorem code_spec (z : EReal) : (((Ideal.fptosi 8 (clipE z)).toInt : ℝ) : EReal) = clipE z := by
  obtain ⟨n, h1, h2, e⟩ := clipE_int z
  rw [e, fptosi_int 8 n (by norm_num; omega) (by norm_num; omega), BitVec.toInt_ofInt]
  congr 2
  rw [Int.bmod_def]; norm_num; omega

/-- Rounding leaves an integer alone. -/
theorem round_int (n : ℤ) : Ideal.liftRound Ideal.roundHalfEven ((n : ℝ) : EReal) = ((n : ℝ) : EReal) := by
  rw [Ideal.liftRound_coe]
  congr 2
  unfold Ideal.roundHalfEven
  simp

/-- A sum of products of integers is the integer sum. -/
theorem dot_int {ι : Type} (S : Finset ι) (f g : ι → ℤ) :
    ∑ k ∈ S, ((f k : ℝ) : EReal) * ((g k : ℝ) : EReal) = (((∑ k ∈ S, f k * g k : ℤ) : ℝ) : EReal) := by
  induction S using Finset.cons_induction with
  | empty => simp
  | cons a S ha ih =>
    rw [Finset.sum_cons, Finset.sum_cons, ih, Int.cast_add, Int.cast_mul, EReal.coe_add, EReal.coe_mul]

/-- Products of bytes: the sum of at most 1024 of them is far inside a 32-bit word. -/
theorem dot_bound {ι : Type} (S : Finset ι) (f g : ι → BitVec 8) (h : S.card ≤ 1024) :
    -(2 ^ 31 : ℤ) ≤ ∑ k ∈ S, (f k).toInt * (g k).toInt ∧ ∑ k ∈ S, (f k).toInt * (g k).toInt ≤ 2 ^ 31 - 1 := by
  have hb : ∀ k, |(f k).toInt * (g k).toInt| ≤ 16384 := by
    intro k
    rw [abs_mul]
    have h1 : |(f k).toInt| ≤ 128 := by
      have := BitVec.toInt_lt (x := f k); have := BitVec.le_toInt (x := f k); rw [abs_le]; norm_num at *; omega
    have h2 : |(g k).toInt| ≤ 128 := by
      have := BitVec.toInt_lt (x := g k); have := BitVec.le_toInt (x := g k); rw [abs_le]; norm_num at *; omega
    calc _ ≤ (128 : ℤ) * 128 := mul_le_mul h1 h2 (abs_nonneg _) (by norm_num)
      _ = 16384 := by norm_num
  have hs : |∑ k ∈ S, (f k).toInt * (g k).toInt| ≤ 16384 * 1024 := by
    refine (Finset.abs_sum_le_sum_abs _ _).trans ((Finset.sum_le_card_nsmul S _ 16384 (fun k _ => hb k)).trans ?_)
    rw [nsmul_eq_mul]
    have : (S.card : ℤ) ≤ 1024 := by exact_mod_cast h
    nlinarith
  rw [abs_le] at hs
  constructor <;> [linarith [hs.1]; linarith [hs.2]]

/-- The dot product of bytes, converted to a 32-bit word, is the word of the integer dot product. -/
theorem fptosi_dot {ι : Type} (S : Finset ι) (f g : ι → BitVec 8) (h : S.card ≤ 1024) :
    Ideal.fptosi 32 (∑ k ∈ S, (((f k).toInt : ℝ) : EReal) * (((g k).toInt : ℝ) : EReal)) = BitVec.ofInt 32 (∑ k ∈ S, (f k).toInt * (g k).toInt) := by
  have hb := dot_bound S f g h
  rw [dot_int, fptosi_int 32 _ (by norm_num at *; exact hb.1) (by norm_num at *; linarith [hb.2])]

/-- Rounding before the conversion changes nothing. -/
theorem fptosi_round_dot {ι : Type} (S : Finset ι) (f g : ι → BitVec 8) (h : S.card ≤ 1024) :
    Ideal.fptosi 32 (Ideal.liftRound Ideal.roundHalfEven (∑ k ∈ S, (((f k).toInt : ℝ) : EReal) * (((g k).toInt : ℝ) : EReal))) = BitVec.ofInt 32 (∑ k ∈ S, (f k).toInt * (g k).toInt) := by
  rw [dot_int, round_int, ← dot_int]
  exact fptosi_dot S f g h

/-- The magnitude of a value. -/
def mag (x : EReal) : EReal := max x (-x)

/-- A magnitude is not negative. -/
theorem mag_nonneg (x : EReal) : 0 ≤ mag x := by
  unfold mag
  rcases le_total 0 x with h | h
  · exact le_max_of_le_left h
  · exact le_max_of_le_right (EReal.neg_nonneg.mpr h)

end Cert.Value

end
-- ==== Proof.Value.Spec.lean ====
/- What every result holds, as functions of the rows. -/
module

public import proofs.«01_k».proof.Proof.Value.Math
public import Idealize.ShloMosaic.PureOps.Vector

@[expose] public section

noncomputable section

namespace Cert.Value

open Idealize.ShloMosaic

/-- The scale of a row whose largest magnitude is `a`: one for a zero row, else `a` over 127. -/
def scaleE (a : EReal) : EReal :=
  if a = 0 then 1 else Ideal.div a (Ideal.ofBits .f32 0x42FE0000#32)

/-- The largest magnitude of a row. -/
def amaxE {K : ℕ} (row : Fin K → EReal) : EReal := Finset.univ.sup fun k => mag (row k)

/-- The scale of a row. -/
def rowScale {K : ℕ} (row : Fin K → EReal) : EReal := scaleE (amaxE row)

/-- The code of a value at a scale. -/
def codeE (x s : EReal) : BitVec 8 := Ideal.fptosi 8 (clipE (Ideal.div x s))

/-- The integer product of a row's codes with a column of weights, as a 32-bit word. -/
def dotE (row : Fin 16384 → EReal) (col : Fin 16384 → BitVec 8) : BitVec 32 :=
  BitVec.ofInt 32 (∑ k, (codeE (row k) (rowScale row)).toInt * (col k).toInt)

/-- An element of the result before its last rounding. -/
def yE (row : Fin 16384 → EReal) (col : Fin 16384 → BitVec 8) (ws : EReal) : EReal :=
  (((dotE row col).toInt : ℝ) : EReal) * rowScale row * ws

/-- A row of the result. -/
def yRow (row : Fin 16384 → EReal) (w : Fin 16384 → Fin 6144 → BitVec 8) (ws : Fin 6144 → EReal) : Fin 6144 → EReal :=
  fun n => yE row (fun k => w k n) (ws n)

/-- A fold of maxima from the bottom is the least upper bound. -/
theorem fold_eq_sup {ι : Type} (S : Finset ι) (f : ι → EReal) : S.fold max (⊥ : EReal) f = S.sup f := rfl

/-- Maxima taken per lane from zero, over a row of magnitudes split by lanes, give the row's largest magnitude. -/
theorem amaxE_of_lanes {K : ℕ} (hK : 0 < K) (f : Fin K → EReal) (m : Fin 128 → EReal)
    (hm : ∀ l b, m l ≤ b ↔ 0 ≤ b ∧ ∀ k : Fin K, k.val % 128 = l.val → mag (f k) ≤ b) :
    Finset.univ.fold max (⊥ : EReal) m = amaxE f := by
  rw [fold_eq_sup]
  unfold amaxE
  refine eq_of_forall_ge_iff fun b => ?_
  rw [Finset.sup_le_iff, Finset.sup_le_iff]
  constructor
  · intro h k _
    exact ((hm ⟨k.val % 128, Nat.mod_lt _ (by decide)⟩ b).mp (h _ (Finset.mem_univ _))).2 k rfl
  · intro h l _
    exact (hm l b).mpr ⟨(mag_nonneg _).trans (h ⟨0, hK⟩ (Finset.mem_univ _)), fun k _ => h k (Finset.mem_univ _)⟩

/-- A fold of maxima of magnitudes is the largest magnitude. -/
theorem fold_mag {K : ℕ} (f : Fin K → EReal) : Finset.univ.fold max (⊥ : EReal) (fun k => mag (f k)) = amaxE f := rfl

/-- The integer product summed over the first `n` slabs of `1024`, over `16` slabs in all, is the whole product. -/
theorem sum_range_all (g : Fin 16384 → ℤ) : ∑ i ∈ Finset.range 16384, g ⟨i % 16384, Nat.mod_lt _ (by decide)⟩ = ∑ k, g k := by
  rw [Finset.sum_range]
  exact Finset.sum_congr rfl fun k _ => congrArg g (Fin.ext (Nat.mod_eq_of_lt k.isLt))

end Cert.Value

end
-- ==== Proof.KernelIdeal.Chain.lean ====
/- The running sum of a point's block product over the slabs of the contraction. -/
module

public import proofs.«01_k».proof.Proof.KernelIdeal.Track
public import Idealize.ShloMosaic.Lib.Pipeline.ValueKit
public import Idealize.ShloMosaic.Lib.Pointwise
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The block product of a point, sixteen slabs of the contraction at a time -/

/-- Slab `k` of the codes of the rows: columns `1024 k` to `1024 k + 1023`. -/
def qt (q : Vec F S256x16384 .bf16) (k : ℕ) : Vec F S256x1024 .bf16 := fun j => q (ix2 (j 0) ⟨(1024 * k + (j 1).val) % 16384, Nat.mod_lt _ (by decide)⟩)
/-- Slab `k` of the block of weights: rows `1024 k` to `1024 k + 1023`. -/
def wt (w : Vec F S16384x512 .i8) (k : ℕ) : Vec F S1024x512 .i8 := fun j => w (ix2 ⟨(1024 * k + (j 0).val) % 16384, Nat.mod_lt _ (by decide)⟩ (j 1))

/-- The running sum over the first slabs. -/
def chain (q : Vec F S256x16384 .bf16) (w : Vec F S16384x512 .i8) : ℕ → Vec F S256x512 .i32
  | 0 => k0_pay45
  | k + 1 => k0_pay46 (qt q k) (wt w k) (chain q w k)

/-- Loading columns `1024 * k` onwards of the codes gives their tile `k`. -/
theorem ld_q (q : Vec F S256x16384 .bf16) (k : ℕ) (hk : k < 16) (off : Fin 2 → ℕ) (inb : ∀ a, off a + S256x1024.size a ≤ S256x16384.size a) (h : off = ![0, 1024 * k]) :
    (View.ld q (Rect.unit off S256x1024.size inb) : Vec F S256x1024 .bf16) = qt q k := by
  subst h
  funext j
  unfold View.ld qt
  congr 1
  funext a
  apply Fin.ext
  have h1 : (j 1).val < 1024 := (j 1).isLt
  fin_cases a
  · show 0 + 1 * (j 0).val = (j 0).val; omega
  · show 1024 * k + 1 * (j 1).val = (1024 * k + (j 1).val) % 16384; omega

/-- Loading rows `1024 * k` onwards of the weight block gives its tile `k`. -/
theorem ld_w (w : Vec F S16384x512 .i8) (k : ℕ) (hk : k < 16) (off : Fin 2 → ℕ) (inb : ∀ a, off a + S1024x512.size a ≤ S16384x512.size a) (h : off = ![1024 * k, 0]) :
    (View.ld w (Rect.unit off S1024x512.size inb) : Vec F S1024x512 .i8) = wt w k := by
  subst h
  funext j
  unfold View.ld wt
  congr 1
  funext a
  apply Fin.ext
  have h1 : (j 0).val < 1024 := (j 0).isLt
  fin_cases a
  · show 1024 * k + 1 * (j 0).val = (1024 * k + (j 0).val) % 16384; omega
  · show 0 + 1 * (j 1).val = (j 1).val; omega

/-- A load of a whole buffer's part, from the contents the buffer reads. -/
theorem readAt_unread {sp : Space} {s : Shape} {e : EltTy} {M : Memref sig .tc sp s e} (h : M.IsWhole) (X : Vec F s e) (r : Rect s) :
    View.readAt (Elt F) M.view r.toLoadRect (h.unread X) = View.ld X r := by
  rw [View.readAt_eq_ld, h.read_unread]

/-- A load of what stores left, from the canonical contents. -/
theorem readCov_ld {sp : Space} {s : Shape} {e : EltTy} (v : View sig .tc sp s e) (L : List (View.Piece (Elt F) s e)) (r : Rect s) :
    v.readCov L r.toLoadRect = View.ld (View.canon L) r := by
  rw [View.readCov_eq_canon']

/-- This step of the unrolled product is the same function as the first: multiply one tile, add it to the sum so far. -/
theorem step47 (a : Vec F S256x1024 .bf16) (b : Vec F S1024x512 .i8) (v : Vec F S256x512 .i32) : k0_pay47 a b v = k0_pay46 a b v := rfl
/-- This step of the unrolled product is the same function as the first: multiply one tile, add it to the sum so far. -/
theorem step48 (a : Vec F S256x1024 .bf16) (b : Vec F S1024x512 .i8) (v : Vec F S256x512 .i32) : k0_pay48 a b v = k0_pay46 a b v := rfl
/-- This step of the unrolled product is the same function as the first: multiply one tile, add it to the sum so far. -/
theorem step49 (a : Vec F S256x1024 .bf16) (b : Vec F S1024x512 .i8) (v : Vec F S256x512 .i32) : k0_pay49 a b v = k0_pay46 a b v := rfl
/-- This step of the unrolled product is the same function as the first: multiply one tile, add it to the sum so far. -/
theorem step50 (a : Vec F S256x1024 .bf16) (b : Vec F S1024x512 .i8) (v : Vec F S256x512 .i32) : k0_pay50 a b v = k0_pay46 a b v := rfl
/-- This step of the unrolled product is the same function as the first: multiply one tile, add it to the sum so far. -/
theorem step51 (a : Vec F S256x1024 .bf16) (b : Vec F S1024x512 .i8) (v : Vec F S256x512 .i32) : k0_pay51 a b v = k0_pay46 a b v := rfl
/-- This step of the unrolled product is the same function as the first: multiply one tile, add it to the sum so far. -/
theorem step52 (a : Vec F S256x1024 .bf16) (b : Vec F S1024x512 .i8) (v : Vec F S256x512 .i32) : k0_pay52 a b v = k0_pay46 a b v := rfl
/-- This step of the unrolled product is the same function as the first: multiply one tile, add it to the sum so far. -/
theorem step55 (a : Vec F S256x1024 .bf16) (b : Vec F S1024x512 .i8) (v : Vec F S256x512 .i32) : k0_pay55 a b v = k0_pay46 a b v := rfl
/-- This step of the unrolled product is the same function as the first: multiply one tile, add it to the sum so far. -/
theorem step56 (a : Vec F S256x1024 .bf16) (b : Vec F S1024x512 .i8) (v : Vec F S256x512 .i32) : k0_pay56 a b v = k0_pay46 a b v := rfl
/-- This step of the unrolled product is the same function as the first: multiply one tile, add it to the sum so far. -/
theorem step59 (a : Vec F S256x1024 .bf16) (b : Vec F S1024x512 .i8) (v : Vec F S256x512 .i32) : k0_pay59 a b v = k0_pay46 a b v := rfl
/-- This step of the unrolled product is the same function as the first: multiply one tile, add it to the sum so far. -/
theorem step60 (a : Vec F S256x1024 .bf16) (b : Vec F S1024x512 .i8) (v : Vec F S256x512 .i32) : k0_pay60 a b v = k0_pay46 a b v := rfl
/-- This step of the unrolled product is the same function as the first: multiply one tile, add it to the sum so far. -/
theorem step63 (a : Vec F S256x1024 .bf16) (b : Vec F S1024x512 .i8) (v : Vec F S256x512 .i32) : k0_pay63 a b v = k0_pay46 a b v := rfl
/-- This step of the unrolled product is the same function as the first: multiply one tile, add it to the sum so far. -/
theorem step64 (a : Vec F S256x1024 .bf16) (b : Vec F S1024x512 .i8) (v : Vec F S256x512 .i32) : k0_pay64 a b v = k0_pay46 a b v := rfl
/-- This step of the unrolled product is the same function as the first: multiply one tile, add it to the sum so far. -/
theorem step53 (a : Vec F S256x1024 .bf16) (b : Vec F S1024x512 .i8) (v : Vec F S256x512 .i32) : k0_pay54 (k0_pay53 a b v) = k0_pay46 a b v := rfl
/-- This step of the unrolled product is the same function as the first: multiply one tile, add it to the sum so far. -/
theorem step57 (a : Vec F S256x1024 .bf16) (b : Vec F S1024x512 .i8) (v : Vec F S256x512 .i32) : k0_pay58 (k0_pay57 a b v) = k0_pay46 a b v := rfl
/-- This step of the unrolled product is the same function as the first: multiply one tile, add it to the sum so far. -/
theorem step61 (a : Vec F S256x1024 .bf16) (b : Vec F S1024x512 .i8) (v : Vec F S256x512 .i32) : k0_pay62 (k0_pay61 a b) v = k0_pay46 a b v := rfl

end Cert.KernelIdeal.Hand

end
-- ==== Proof.KernelIdeal.StateBase.lean ====
/- The contents of the scratch filled block by block. -/
module

public import proofs.«01_k».proof.Proof.KernelIdeal.Chain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## What each case leaves, as equations -/

/-- The first column of the scales' scratch. -/
def scol (s : Vec F S256x128 .f32) : Vec F S256x1 .f32 := View.ld s (Rect.unit ![0, 0] S256x1.size inb_S256x128_S256x1_0_0)

/-- The block product times the row scales. -/
def RR (q : Vec F S256x16384 .bf16) (s : Vec F S256x128 .f32) (x1 : Vec F S16384x512 .i8) : FVec F S256x512 .f32 :=
  k0_pay65 (chain q x1 16) (scol s)

/-- Contents `X` of `arg12` with block `t` replaced. -/
def putB (t : ℕ) (w : Vec F S256x512 .f32) (X : Vec F S256x6144 .f32) : Vec F S256x6144 .f32 :=
  fun i => if h : 512 * t ≤ (i 1).val ∧ (i 1).val < 512 * t + 512 then w (ix2 (i 0) ⟨(i 1).val - 512 * t, by omega⟩) else X i

/-- The one store of a point's block into the scratch result replaces that block and nothing else. -/
theorem put12_eq (t : Fin cfg0.N) (w : Vec F S256x512 .f32) (X : Vec F S256x6144 .f32) :
    put12 X [⟨Rect.unit (k0_off2 (grid0.coords t)) S256x512.size (k0_off2_inb (grid0.coords t)), w⟩] = putB t.val w X := by
  funext i
  unfold put12 putB
  rw [View.read_writes_cons_unit (heq := off2_eq t)]
  have h0 : (i 0).val < 256 := (i 0).isLt
  by_cases h : 512 * t.val ≤ (i 1).val ∧ (i 1).val < 512 * t.val + 512
  · rw [dif_pos h, dif_pos (by
      intro a; fin_cases a
      · exact ⟨Nat.zero_le _, by show (i 0).val < 0 + 256; omega⟩
      · exact h)]
    congr 1
    funext a
    apply Fin.ext
    fin_cases a
    · show (i 0).val - 0 = (i 0).val; omega
    · rfl
  · rw [dif_neg h, dif_neg (fun hc => h (hc 1))]
    simp only [View.writes_nil]
    rw [Memref.IsWhole.read_unread (m := scM0_3)]

/-- Loading the first column of an array gives its first column. -/
theorem ld_col (s : Vec F S256x128 .f32) (r : Fin 256) :
    View.ld s (Rect.unit (s := S256x128) ![0, 0] S256x1.size inb_S256x128_S256x1_0_0) (ix2 r 0 : S256x1.Idx) = s (ix2 r 0) := by
  unfold View.ld
  congr 1
  funext a
  apply Fin.ext
  fin_cases a
  · show 0 + 1 * r.val = r.val; omega
  · rfl

/-- Loading a whole array gives the array. -/
theorem ld_full {s : Shape} {e : EltTy} (X : Vec F s e) (off : Fin s.rank → ℕ) (inb : ∀ a, off a + s.size a ≤ s.size a) :
    View.ld X (Rect.unit off s.size inb) = X := by
  funext j
  unfold View.ld
  congr 1
  funext a
  apply Fin.ext
  have := inb a
  show off a + 1 * (j a).val = (j a).val
  omega

end Cert.KernelIdeal.Hand

end
-- ==== Proof.KernelIdeal.ChainA.lean ====
/- The block product in case A. -/
module

public import proofs.«01_k».proof.Proof.KernelIdeal.Chain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The codes of the rows the first point leaves in the scratch, from the loop over the column blocks. -/
def qA (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) : Vec F S256x16384 .bf16 :=
  View.canon (pb_k0_t1 Variants.none c none i arg1 harg1 arg2 harg2 arg3 harg3 arg4 harg4 arg5 harg5 arg6 harg6 arg7 harg7 arg8 harg8 arg9 harg9 arg10 harg10 arg11 harg11 arg12 harg12 arg13 harg13 hc0 (harg1.unread x0) (arg10.view.writes (Elt F) arg10.view.junk (kernelRun0_A.sl.HS1_1 c arg1 harg1 x0)) (Scf.trips k0_t1_loop.lb k0_t1_loop.ub k0_t1_loop.st)).2

/-- At the first point, load 0 of the integer sums gives the sum of the first 0 tile products. -/
theorem A_v11 (c : Dev nD) (arg11 : Memref sig .tc .vmem S256x512 .i32) (q : Vec F S256x16384 .bf16) (x1 : Vec F S16384x512 .i8) : kernelRun0_A.sl.v11 (F := F) c arg11 = chain q x1 0 := by
  unfold kernelRun0_A.sl.v11 kernelRun0_A.sl.HS2_1; rw [View.readCov_full]; rfl
/-- At the first point, load 1 of the integer sums gives the sum of the first 1 tile products. -/
theorem A_v22 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v22 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 1 := by
  unfold kernelRun0_A.sl.v22 kernelRun0_A.sl.HS2_2; rw [View.readCov_full, A_v11 c arg11 (qA c i arg1 harg1 arg2 harg2 arg3 harg3 arg4 harg4 arg5 harg5 arg6 harg6 arg7 harg7 arg8 harg8 arg9 harg9 arg10 harg10 arg11 harg11 arg12 harg12 arg13 harg13 hc0 x0) x1]
  rw [readCov_ld, readAt_unread, ld_q _ 0 (by decide) _ _ rfl, ld_w _ 0 (by decide) _ _ rfl]; rfl
/-- At the first point, load 2 of the integer sums gives the sum of the first 2 tile products. -/
theorem A_v33 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v33 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 2 := by
  unfold kernelRun0_A.sl.v33 kernelRun0_A.sl.HS2_3; rw [View.readCov_full, step47, A_v22]
  rw [readCov_ld, readAt_unread, ld_q _ 1 (by decide) _ _ rfl, ld_w _ 1 (by decide) _ _ rfl]; rfl
/-- At the first point, load 3 of the integer sums gives the sum of the first 3 tile products. -/
theorem A_v44 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v44 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 3 := by
  unfold kernelRun0_A.sl.v44 kernelRun0_A.sl.HS2_4 kernelRun0_A.sl.r_26; rw [View.readCov_full, step48, A_v33]
  rw [readCov_ld, readAt_unread, ld_q _ 2 (by decide) _ _ rfl, ld_w _ 2 (by decide) _ _ rfl]; rfl
/-- At the first point, load 4 of the integer sums gives the sum of the first 4 tile products. -/
theorem A_v55 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v55 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 4 := by
  unfold kernelRun0_A.sl.v55 kernelRun0_A.sl.HS2_5; rw [View.readCov_full, step49, A_v44]
  rw [readCov_ld, readAt_unread, ld_q _ 3 (by decide) _ _ rfl, ld_w _ 3 (by decide) _ _ rfl]; rfl
/-- At the first point, load 5 of the integer sums gives the sum of the first 5 tile products. -/
theorem A_v66 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v66 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 5 := by
  unfold kernelRun0_A.sl.v66 kernelRun0_A.sl.HS2_6; rw [View.readCov_full, step50, A_v55]
  rw [readCov_ld, readAt_unread, ld_q _ 4 (by decide) _ _ rfl, ld_w _ 4 (by decide) _ _ rfl]; rfl
/-- At the first point, load 6 of the integer sums gives the sum of the first 6 tile products. -/
theorem A_v77 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v77 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 6 := by
  unfold kernelRun0_A.sl.v77 kernelRun0_A.sl.HS2_7; rw [View.readCov_full, step51, A_v66]
  rw [readCov_ld, readAt_unread, ld_q _ 5 (by decide) _ _ rfl, ld_w _ 5 (by decide) _ _ rfl]; rfl
/-- At the first point, load 7 of the integer sums gives the sum of the first 7 tile products. -/
theorem A_v88 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v88 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 7 := by
  unfold kernelRun0_A.sl.v88 kernelRun0_A.sl.HS2_8; rw [View.readCov_full, step52, A_v77]
  rw [readCov_ld, readAt_unread, ld_q _ 6 (by decide) _ _ rfl, ld_w _ 6 (by decide) _ _ rfl]; rfl
/-- At the first point, load 8 of the integer sums gives the sum of the first 8 tile products. -/
theorem A_v99 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v99 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 8 := by
  unfold kernelRun0_A.sl.v99 kernelRun0_A.sl.HS2_9 kernelRun0_A.sl.r_27; rw [View.readCov_full, step53, A_v88]
  rw [readCov_ld, readAt_unread, ld_q _ 7 (by decide) _ _ rfl, ld_w _ 7 (by decide) _ _ rfl]; rfl
/-- At the first point, load 9 of the integer sums gives the sum of the first 9 tile products. -/
theorem A_v110 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v110 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 9 := by
  unfold kernelRun0_A.sl.v110 kernelRun0_A.sl.HS2_10; rw [View.readCov_full, step55, A_v99]
  rw [readCov_ld, readAt_unread, ld_q _ 8 (by decide) _ _ rfl, ld_w _ 8 (by decide) _ _ rfl]; rfl
/-- At the first point, load 10 of the integer sums gives the sum of the first 10 tile products. -/
theorem A_v121 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v121 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 10 := by
  unfold kernelRun0_A.sl.v121 kernelRun0_A.sl.HS2_11; rw [View.readCov_full, step56, A_v110]
  rw [readCov_ld, readAt_unread, ld_q _ 9 (by decide) _ _ rfl, ld_w _ 9 (by decide) _ _ rfl]; rfl
/-- At the first point, load 11 of the integer sums gives the sum of the first 11 tile products. -/
theorem A_v132 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v132 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 11 := by
  unfold kernelRun0_A.sl.v132 kernelRun0_A.sl.HS2_12 kernelRun0_A.sl.r_28; rw [View.readCov_full, step57, A_v121]
  rw [readCov_ld, readAt_unread, ld_q _ 10 (by decide) _ _ rfl, ld_w _ 10 (by decide) _ _ rfl]; rfl
/-- At the first point, load 12 of the integer sums gives the sum of the first 12 tile products. -/
theorem A_v143 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v143 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 12 := by
  unfold kernelRun0_A.sl.v143 kernelRun0_A.sl.HS2_13; rw [View.readCov_full, step59, A_v132]
  rw [readCov_ld, readAt_unread, ld_q _ 11 (by decide) _ _ rfl, ld_w _ 11 (by decide) _ _ rfl]; rfl
/-- At the first point, load 13 of the integer sums gives the sum of the first 13 tile products. -/
theorem A_v154 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v154 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 13 := by
  unfold kernelRun0_A.sl.v154 kernelRun0_A.sl.HS2_14; rw [View.readCov_full, step60, A_v143]
  rw [readCov_ld, readAt_unread, ld_q _ 12 (by decide) _ _ rfl, ld_w _ 12 (by decide) _ _ rfl]; rfl
/-- At the first point, load 14 of the integer sums gives the sum of the first 14 tile products. -/
theorem A_v165 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v165 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 14 := by
  unfold kernelRun0_A.sl.v165 kernelRun0_A.sl.HS2_15 kernelRun0_A.sl.r_29; rw [View.readCov_full, step61, A_v154]
  rw [readCov_ld, readAt_unread, ld_q _ 13 (by decide) _ _ rfl, ld_w _ 13 (by decide) _ _ rfl]; rfl
/-- At the first point, load 15 of the integer sums gives the sum of the first 15 tile products. -/
theorem A_v176 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v176 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 15 := by
  unfold kernelRun0_A.sl.v176 kernelRun0_A.sl.HS2_16; rw [View.readCov_full, step63, A_v165]
  rw [readCov_ld, readAt_unread, ld_q _ 14 (by decide) _ _ rfl, ld_w _ 14 (by decide) _ _ rfl]; rfl
/-- At the first point, load 16 of the integer sums gives the sum of the first 16 tile products. -/
theorem A_v183 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : k0_cond1 i = 1#1) (x0 : Vec F S256x16384 .bf16) (x1 : Vec F S16384x512 .i8) : kernelRun0_A.sl.v183 c i arg1 harg1 arg2 harg2 arg3 harg3 arg4 harg4 arg5 harg5 arg6 harg6 arg7 harg7 arg8 harg8 arg9 harg9 arg10 harg10 arg11 harg11 arg12 harg12 arg13 harg13 hc0 x0 x1 = chain (qA c i arg1 harg1 arg2 harg2 arg3 harg3 arg4 harg4 arg5 harg5 arg6 harg6 arg7 harg7 arg8 harg8 arg9 harg9 arg10 harg10 arg11 harg11 arg12 harg12 arg13 harg13 hc0 x0) x1 16 := by
  unfold kernelRun0_A.sl.v183 kernelRun0_A.sl.HS2_17; rw [View.readCov_full, step64, A_v176]
  rw [readCov_ld, readAt_unread, ld_q _ 15 (by decide) _ _ rfl, ld_w _ 15 (by decide) _ _ rfl]; rfl

end Cert.KernelIdeal.Hand

end
-- ==== Proof.KernelIdeal.LoopVal.lean ====
/- The loops over the column blocks, read at an index. -/
module

public import proofs.«01_k».proof.Proof.KernelIdeal.Chain
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The loops over the column blocks, read at an index -/

/-- One trip of the result loop stores the codes of one column block. -/
theorem trip2_eq (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (h : k0_cond2 i = 1#1) (X : Vec F S256x6144 .f32) (a : Vec F S256x128 .f32) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 h (harg12.unread X) (harg13.unread a) k
      = [⟨Rect.unit (k0_off3 k) S256x1024.size (k0_off3_inb i k h), k0_pay9 (View.readAt (Elt F) arg12.view (Rect.unit (s := S256x6144) (k0_off3 k) S256x1024.size (k0_off3_inb i k h)).toLoadRect (harg12.unread X)) (View.readAt (Elt F) arg13.view (Rect.unit (s := S256x128) ![0, 0] S256x1.size inb_S256x128_S256x1_0_0).toLoadRect (harg13.unread a))⟩] := by
  unfold tripL_k0_t2 trip_k0_t2
  rfl

/-- One trip of the input loop stores the codes of one column block, as 8-bit integers and as floats. -/
theorem trip1_eq (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (h : k0_cond1 i = 1#1) (X : Vec F S256x16384 .bf16) (f : arg10.view.ty.Contents (Elt F)) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 h (harg1.unread X) f k
      = ([⟨Rect.unit (k0_off1 k) S256x1024.size (k0_off1_inb i k h), k0_pay44 (View.readAt (Elt F) arg1.view (Rect.unit (s := S256x16384) (k0_off1 k) S256x1024.size (k0_off1_inb i k h)).toLoadRect (harg1.unread X)) (View.readAt (Elt F) arg10.view (Rect.unit (s := S256x128) ![0, 0] S256x1.size inb_S256x128_S256x1_0_0).toLoadRect f)⟩],
         [⟨Rect.unit (k0_off1 k) S256x1024.size (k0_off1_inb i k h), k0_pay43 (View.readAt (Elt F) arg1.view (Rect.unit (s := S256x16384) (k0_off1 k) S256x1024.size (k0_off1_inb i k h)).toLoadRect (harg1.unread X)) (View.readAt (Elt F) arg10.view (Rect.unit (s := S256x128) ![0, 0] S256x1.size inb_S256x128_S256x1_0_0).toLoadRect f)⟩]) := by
  unfold tripL_k0_t1 trip_k0_t1
  rfl

/-- What a store of column block `k` over earlier contents leaves, at an index. -/
theorem canon_colblock {N : ℕ} {e : EltTy} (k : ℕ) (off : Fin 2 → ℕ) (inb : ∀ a, off a + (![256, 1024] : Fin 2 → ℕ) a ≤ (⟨2, ![256, N]⟩ : Shape).size a) (ho : off = ![0, 1024 * k])
    (w : Vec F S256x1024 e) (L : List (View.Piece (Elt F) (⟨2, ![256, N]⟩ : Shape) e)) (i : (⟨2, ![256, N]⟩ : Shape).Idx) :
    View.canon (⟨Rect.unit off ![256, 1024] inb, w⟩ :: L) i
      = if h : 1024 * k ≤ (i 1).val ∧ (i 1).val < 1024 * k + 1024 then w (ix2 (i 0) ⟨(i 1).val - 1024 * k, by omega⟩) else View.canon L i := by
  subst ho
  split
  · rename_i h
    have e : i = (Rect.unit ![0, 1024 * k] ![256, 1024] inb).emb (ix2 (i 0) ⟨(i 1).val - 1024 * k, by omega⟩ : S256x1024.Idx) := by
      funext a
      apply Fin.ext
      fin_cases a
      · show (i 0).val = 0 + 1 * (i 0).val; omega
      · show (i 1).val = 1024 * k + 1 * ((i 1).val - 1024 * k); omega
    conv_lhs => rw [e]
    exact View.canon_cons_emb _ _ _ _
  · rename_i h
    apply View.canon_cons_of_not_mem
    intro hm
    exact h ((Rect.mem_set_unit (inb := inb)).mp hm 1)

/-- A value over its scale, rounded to the nearest integer and held within ±127. -/
def clip8 (x s : F .f32) : F .f32 :=
  FloatOps.minimumf (FloatOps.ofBits .f32 0x42FE0000#32) (FloatOps.maximumf (FloatOps.ofBits .f32 0xC2FE0000#32) (FloatOps.roundeven (FloatOps.divf x s)))

/-- A result code: the entry over the scale of its row, rounded, clipped and converted. -/
theorem pay9_at (v : Vec F S256x1024 .f32) (s : Vec F S256x1 .f32) (j : S256x1024.Idx) :
    k0_pay9 v s j = FloatOps.fptosi 8 (clip8 (v j) (s (ix2 (j 0) 0))) := by
  unfold clip8
  pointwise [k0_pay9]
/-- An input code as an 8-bit integer: the entry over the scale of its row, rounded, clipped and converted. -/
theorem pay44_at (v : Vec F S256x1024 .bf16) (s : Vec F S256x1 .f32) (j : S256x1024.Idx) :
    k0_pay44 v s j = FloatOps.fptosi 8 (clip8 (FloatOps.extf .f32 bitsLt_bf16_f32 (v j)) (s (ix2 (j 0) 0))) := by
  unfold clip8
  pointwise [k0_pay44, k0_pay42]
/-- An input code as a float: the entry over the scale of its row, rounded and clipped. -/
theorem pay43_at (v : Vec F S256x1024 .bf16) (s : Vec F S256x1 .f32) (j : S256x1024.Idx) :
    k0_pay43 v s j = FloatOps.truncf .bf16 bitsLt_bf16_f32 (clip8 (FloatOps.extf .f32 bitsLt_bf16_f32 (v j)) (s (ix2 (j 0) 0))) := by
  unfold clip8
  pointwise [k0_pay43, k0_pay42]

/-- The result loop runs six trips. -/
theorem trips2_6 : k0_t2_loop.trips = 6 := by decide +kernel
/-- The input loop runs sixteen trips. -/
theorem trips1_16 : k0_t1_loop.trips = 16 := by decide +kernel

/-- An index of a column block, placed in the whole row. -/
theorem ld_colblock {N : ℕ} {e : EltTy} (k : ℕ) (off : Fin 2 → ℕ) (inb : ∀ a, off a + S256x1024.size a ≤ (⟨2, ![256, N]⟩ : Shape).size a) (ho : off = ![0, 1024 * k])
    (X : Vec F (⟨2, ![256, N]⟩ : Shape) e) (i : (⟨2, ![256, N]⟩ : Shape).Idx) (h : 1024 * k ≤ (i 1).val ∧ (i 1).val < 1024 * k + 1024) :
    View.ld X (Rect.unit off S256x1024.size inb) (ix2 (i 0) ⟨(i 1).val - 1024 * k, by omega⟩ : S256x1024.Idx) = X i := by
  subst ho
  unfold View.ld
  congr 1
  funext a
  apply Fin.ext
  fin_cases a
  · show 0 + 1 * (i 0).val = (i 0).val; omega
  · show 1024 * k + 1 * ((i 1).val - 1024 * k) = (i 1).val; omega

/-- After `n` trips the first `n` column blocks of the result codes are the codes of the scratch result. -/
theorem canon2 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (h : k0_cond2 i = 1#1) (X : Vec F S256x6144 .f32) (a : Vec F S256x128 .f32) (n : ℕ) (hn : n ≤ k0_t2_loop.trips) :
    ∀ j : S256x6144.Idx, (j 1).val < 1024 * n →
      View.canon (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 h (harg12.unread X) (harg13.unread a) n) j
        = FloatOps.fptosi 8 (clip8 (X j) (View.ld a (Rect.unit (s := S256x128) ![0, 0] S256x1.size inb_S256x128_S256x1_0_0) (ix2 (j 0) 0 : S256x1.Idx))) := by
  induction n with
  | zero => intro j hj; omega
  | succ n ih =>
    intro j hj
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 h (harg12.unread X) (harg13.unread a) ⟨n, hn⟩
    rw [e, trip2_eq, List.singleton_append]
    refine (canon_colblock n _ _ (k0_off3_eq ⟨n, hn⟩) _ _ j).trans ?_
    split
    · rename_i hj'
      rw [pay9_at, readAt_unread, readAt_unread]
      congr 2
      exact ld_colblock n _ _ (k0_off3_eq ⟨n, hn⟩) X j hj'
    · rename_i hj'
      exact ih (by omega) j (by omega)

/-- After `n` trips the first `n` column blocks of the input codes, in both forms, are the codes of the input. -/
theorem canon1 (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (h : k0_cond1 i = 1#1) (X : Vec F S256x16384 .bf16) (f : arg10.view.ty.Contents (Elt F)) (n : ℕ) (hn : n ≤ k0_t1_loop.trips) :
    ∀ j : S256x16384.Idx, (j 1).val < 1024 * n →
      View.canon (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 h (harg1.unread X) f n).1 j
        = FloatOps.fptosi 8 (clip8 (FloatOps.extf .f32 bitsLt_bf16_f32 (X j)) (View.readAt (Elt F) arg10.view (Rect.unit (s := S256x128) ![0, 0] S256x1.size inb_S256x128_S256x1_0_0).toLoadRect f (ix2 (j 0) 0 : S256x1.Idx)))
      ∧ View.canon (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 h (harg1.unread X) f n).2 j
        = FloatOps.truncf .bf16 bitsLt_bf16_f32 (clip8 (FloatOps.extf .f32 bitsLt_bf16_f32 (X j)) (View.readAt (Elt F) arg10.view (Rect.unit (s := S256x128) ![0, 0] S256x1.size inb_S256x128_S256x1_0_0).toLoadRect f (ix2 (j 0) 0 : S256x1.Idx))) := by
  induction n with
  | zero => intro j hj; omega
  | succ n ih =>
    intro j hj
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 h (harg1.unread X) f ⟨n, hn⟩
    rw [e, trip1_eq]
    dsimp only
    rw [List.singleton_append, List.singleton_append]
    by_cases hj' : 1024 * n ≤ (j 1).val ∧ (j 1).val < 1024 * n + 1024
    · constructor
      · refine (canon_colblock n _ _ (k0_off1_eq ⟨n, hn⟩) _ _ j).trans ?_
        rw [dif_pos hj', pay44_at, readAt_unread]
        congr 3
        exact ld_colblock n _ _ (k0_off1_eq ⟨n, hn⟩) X j hj'
      · refine (canon_colblock n _ _ (k0_off1_eq ⟨n, hn⟩) _ _ j).trans ?_
        rw [dif_pos hj', pay43_at, readAt_unread]
        congr 3
        exact ld_colblock n _ _ (k0_off1_eq ⟨n, hn⟩) X j hj'
    · constructor
      · refine (canon_colblock n _ _ (k0_off1_eq ⟨n, hn⟩) _ _ j).trans ?_
        rw [dif_neg hj']
        exact (ih (by omega) j (by omega)).1
      · refine (canon_colblock n _ _ (k0_off1_eq ⟨n, hn⟩) _ _ j).trans ?_
        rw [dif_neg hj']
        exact (ih (by omega) j (by omega)).2

end Cert.KernelIdeal.Hand

end
-- ==== Proof.KernelIdeal.StateA.lean ====
/- What the body leaves at the first point, as equations. -/
module

public import proofs.«01_k».proof.Proof.KernelIdeal.StateBase
public import proofs.«01_k».proof.Proof.KernelIdeal.ChainA
public import proofs.«01_k».proof.Proof.KernelIdeal.LoopVal
public import Idealize.ShloMosaic.Lib.Pointwise.Reshape

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The largest magnitude of each row, lane by lane -/

/-- The 128 columns of the rows from column `128 n`. -/
def xt (x : Vec F S256x16384 .bf16) (n : ℕ) : Vec F S256x128 .bf16 :=
  fun j => x (ix2 (j 0) ⟨(128 * n + (j 1).val) % 16384, Nat.mod_lt _ (by decide)⟩)

/-- The largest magnitude, per lane, over the first `n` groups of 128 columns. -/
def amx (x : Vec F S256x16384 .bf16) : ℕ → Vec F S256x128 .bf16
  | 0 => broadcast S256x128 (Scalar.ofBits .bf16 0x0000#16 : F .bf16)
  | n + 1 => maximumf (amx x n) (absf (xt x n))

/-- Loading columns `128 * n` onwards of the input gives its tile `n`. -/
theorem ld_x (x : Vec F S256x16384 .bf16) (n : ℕ) (hn : n < 128) (off : Fin 2 → ℕ) (inb : ∀ a, off a + S256x128.size a ≤ S256x16384.size a) (h : off = ![0, 128 * n]) :
    (View.ld x (Rect.unit off S256x128.size inb) : Vec F S256x128 .bf16) = xt x n := by
  subst h
  funext j
  unfold View.ld xt
  congr 1
  funext a
  apply Fin.ext
  have h1 : (j 1).val < 128 := (j 1).isLt
  fin_cases a
  · show 0 + 1 * (j 0).val = (j 0).val; omega
  · show 128 * n + 1 * (j 1).val = (128 * n + (j 1).val) % 16384
    rw [Nat.mod_eq_of_lt (by omega)]; omega

/-- Reading columns `128 * n` onwards of the staged input gives its tile `n`. -/
theorem rd_x {M : Memref sig .tc .vmem S256x16384 .bf16} (h : M.IsWhole) (x : Vec F S256x16384 .bf16) (n : ℕ) (hn : n < 128) (off : Fin 2 → ℕ) (inb : ∀ a, off a + S256x128.size a ≤ S256x16384.size a) (ho : off = ![0, 128 * n]) :
    View.readAt (Elt F) M.view (Rect.unit (s := S256x16384) off S256x128.size inb).toLoadRect (h.unread x) = xt x n := by
  rw [readAt_unread, ld_x x n hn off inb ho]

/-- This step of the unrolled maximum reaches the running maximum over the first 9 tiles. -/
theorem k0_pay10_amx (x : Vec F S256x16384 .bf16) : k0_pay10 (xt x 0) (xt x 1) (xt x 2) (xt x 3) (xt x 4) (xt x 5) (xt x 6) (xt x 7) (xt x 8) = amx x 9 := by
  unfold k0_pay10; simp only [shapeCast_id]; rfl
/-- The run holds here the running maximum over the first 9 tiles. -/
theorem A_r (c : Dev nD) (arg1 : Memref sig .tc .vmem S256x16384 .bf16) (harg1 : arg1.IsWhole) (x0 : Vec F S256x16384 .bf16) : kernelRun0_A.sl.r c arg1 harg1 x0 = amx x0 9 := by
  unfold kernelRun0_A.sl.r; rw [rd_x harg1 x0 0 (by decide) _ _ rfl, rd_x harg1 x0 1 (by decide) _ _ rfl, rd_x harg1 x0 2 (by decide) _ _ rfl, rd_x harg1 x0 3 (by decide) _ _ rfl, rd_x harg1 x0 4 (by decide) _ _ rfl, rd_x harg1 x0 5 (by decide) _ _ rfl, rd_x harg1 x0 6 (by decide) _ _ rfl, rd_x harg1 x0 7 (by decide) _ _ rfl, rd_x harg1 x0 8 (by decide) _ _ rfl]; exact k0_pay10_amx x0
/-- The run holds here tile 9 of the input. -/
theorem A_r_1 (c : Dev nD) (arg1 : Memref sig .tc .vmem S256x16384 .bf16) (harg1 : arg1.IsWhole) (x0 : Vec F S256x16384 .bf16) : kernelRun0_A.sl.r_1 c arg1 harg1 x0 = xt x0 9 := by
  unfold kernelRun0_A.sl.r_1; rw [rd_x harg1 x0 9 (by decide) _ _ rfl]; unfold k0_pay11; exact shapeCast_id _ _
/-- This step of the unrolled maximum reaches the running maximum over the first 19 tiles. -/
theorem k0_pay12_amx (x : Vec F S256x16384 .bf16) : k0_pay12 (amx x 9) (xt x 9) (xt x 10) (xt x 11) (xt x 12) (xt x 13) (xt x 14) (xt x 15) (xt x 16) (xt x 17) (xt x 18) = amx x 19 := by
  unfold k0_pay12; simp only [shapeCast_id]; rfl
/-- The run holds here the running maximum over the first 19 tiles. -/
theorem A_r_2 (c : Dev nD) (arg1 : Memref sig .tc .vmem S256x16384 .bf16) (harg1 : arg1.IsWhole) (x0 : Vec F S256x16384 .bf16) : kernelRun0_A.sl.r_2 c arg1 harg1 x0 = amx x0 19 := by
  unfold kernelRun0_A.sl.r_2; rw [A_r, A_r_1, rd_x harg1 x0 10 (by decide) _ _ rfl, rd_x harg1 x0 11 (by decide) _ _ rfl, rd_x harg1 x0 12 (by decide) _ _ rfl, rd_x harg1 x0 13 (by decide) _ _ rfl, rd_x harg1 x0 14 (by decide) _ _ rfl, rd_x harg1 x0 15 (by decide) _ _ rfl, rd_x harg1 x0 16 (by decide) _ _ rfl, rd_x harg1 x0 17 (by decide) _ _ rfl, rd_x harg1 x0 18 (by decide) _ _ rfl]; exact k0_pay12_amx x0
/-- The run holds here tile 19 of the input. -/
theorem A_r_3 (c : Dev nD) (arg1 : Memref sig .tc .vmem S256x16384 .bf16) (harg1 : arg1.IsWhole) (x0 : Vec F S256x16384 .bf16) : kernelRun0_A.sl.r_3 c arg1 harg1 x0 = xt x0 19 := by
  unfold kernelRun0_A.sl.r_3; rw [rd_x harg1 x0 19 (by decide) _ _ rfl]; unfold k0_pay13; exact shapeCast_id _ _
/-- This step of the unrolled maximum reaches the running maximum over the first 29 tiles. -/
theorem k0_pay14_amx (x : Vec F S256x16384 .bf16) : k0_pay14 (amx x 19) (xt x 19) (xt x 20) (xt x 21) (xt x 22) (xt x 23) (xt x 24) (xt x 25) (xt x 26) (xt x 27) (xt x 28) = amx x 29 := by
  unfold k0_pay14; simp only [shapeCast_id]; rfl
/-- The run holds here the running maximum over the first 29 tiles. -/
theorem A_r_4 (c : Dev nD) (arg1 : Memref sig .tc .vmem S256x16384 .bf16) (harg1 : arg1.IsWhole) (x0 : Vec F S256x16384 .bf16) : kernelRun0_A.sl.r_4 c arg1 harg1 x0 = amx x0 29 := by
  unfold kernelRun0_A.sl.r_4; rw [A_r_2, A_r_3, rd_x harg1 x0 20 (by decide) _ _ rfl, rd_x harg1 x0 21 (by decide) _ _ rfl, rd_x harg1 x0 22 (by decide) _ _ rfl, rd_x harg1 x0 23 (by decide) _ _ rfl, rd_x harg1 x0 24 (by decide) _ _ rfl, rd_x harg1 x0 25 (by decide) _ _ rfl, rd_x harg1 x0 26 (by decide) _ _ rfl, rd_x harg1 x0 27 (by decide) _ _ rfl, rd_x harg1 x0 28 (by decide) _ _ rfl]; exact k0_pay14_amx x0
/-- The run holds here tile 29 of the input. -/
theorem A_r_5 (c : Dev nD) (arg1 : Memref sig .tc .vmem S256x16384 .bf16) (harg1 : arg1.IsWhole) (x0 : Vec F S256x16384 .bf16) : kernelRun0_A.sl.r_5 c arg1 harg1 x0 = xt x0 29 := by
  unfold kernelRun0_A.sl.r_5; rw [rd_x harg1 x0 29 (by decide) _ _ rfl]; unfold k0_pay15; exact shapeCast_id _ _
/-- This step of the unrolled maximum reaches the running maximum over the first 39 tiles. -/
theorem k0_pay16_amx (x : Vec F S256x16384 .bf16) : k0_pay16 (amx x 29) (xt x 29) (xt x 30) (xt x 31) (xt x 32) (xt x 33) (xt x 34) (xt x 35) (xt x 36) (xt x 37) (xt x 38) = amx x 39 := by
  unfold k0_pay16; simp only [shapeCast_id]; rfl
/-- The run holds here the running maximum over the first 39 tiles. -/
theorem A_r_6 (c : Dev nD) (arg1 : Memref sig .tc .vmem S256x16384 .bf16) (harg1 : arg1.IsWhole) (x0 : Vec F S256x16384 .bf16) : kernelRun0_A.sl.r_6 c arg1 harg1 x0 = amx x0 39 := by
  unfold kernelRun0_A.sl.r_6; rw [A_r_4, A_r_5, rd_x harg1 x0 30 (by decide) _ _ rfl, rd_x harg1 x0 31 (by decide) _ _ rfl, rd_x harg1 x0 32 (by decide) _ _ rfl, rd_x harg1 x0 33 (by decide) _ _ rfl, rd_x harg1 x0 34 (by decide) _ _ rfl, rd_x harg1 x0 35 (by decide) _ _ rfl, rd_x harg1 x0 36 (by decide) _ _ rfl, rd_x harg1 x0 37 (by decide) _ _ rfl, rd_x harg1 x0 38 (by decide) _ _ rfl]; exact k0_pay16_amx x0
/-- The run holds here tile 39 of the input. -/
theorem A_r_7 (c : Dev nD) (arg1 : Memref sig .tc .vmem S256x16384 .bf16) (harg1 : arg1.IsWhole) (x0 : Vec F S256x16384 .bf16) : kernelRun0_A.sl.r_7 c arg1 harg1 x0 = xt x0 39 := by
  unfold kernelRun0_A.sl.r_7; rw [rd_x harg1 x0 39 (by decide) _ _ rfl]; unfold k0_pay17; exact shapeCast_id _ _
/-- This step of the unrolled maximum reaches the running maximum over the first 49 tiles. -/
theorem k0_pay18_amx (x : Vec F S256x16384 .bf16) : k0_pay18 (amx x 39) (xt x 39) (xt x 40) (xt x 41) (xt x 42) (xt x 43) (xt x 44) (xt x 45) (xt x 46) (xt x 47) (xt x 48) = amx x 49 := by
  unfold k0_pay18; simp only [shapeCast_id]; rfl
/-- The run holds here the running maximum over the first 49 tiles. -/
theorem A_r_8 (c : Dev nD) (arg1 : Memref sig .tc .vmem S256x16384 .bf16) (harg1 : arg1.IsWhole) (x0 : Vec F S256x16384 .bf16) : kernelRun0_A.sl.r_8 c arg1 harg1 x0 = amx x0 49 := by
  unfold kernelRun0_A.sl.r_8; rw [A_r_6, A_r_7, rd_x harg1 x0 40 (by decide) _ _ rfl, rd_x harg1 x0 41 (by decide) _ _ rfl, rd_x harg1 x0 42 (by decide) _ _ rfl, rd_x harg1 x0 43 (by decide) _ _ rfl, rd_x harg1 x0 44 (by decide) _ _ rfl, rd_x harg1 x0 45 (by decide) _ _ rfl, rd_x harg1 x0 46 (by decide) _ _ rfl, rd_x harg1 x0 47 (by decide) _ _ rfl, rd_x harg1 x0 48 (by decide) _ _ rfl]; exact k0_pay18_amx x0
/-- The run holds here tile 49 of the input. -/
theorem A_r_9 (c : Dev nD) (arg1 : Memref sig .tc .vmem S256x16384 .bf16) (harg1 : arg1.IsWhole) (x0 : Vec F S256x16384 .bf16) : kernelRun0_A.sl.r_9 c arg1 harg1 x0 = xt x0 49 := by
  unfold kernelRun0_A.sl.r_9; rw [rd_x harg1 x0 49 (by decide) _ _ rfl]; unfold k0_pay19; exact shapeCast_id _ _
/-- This step of the unrolled maximum reaches the running maximum over the first 59 tiles. -/
theorem k0_pay20_amx (x : Vec F S256x16384 .bf16) : k0_pay20 (amx x 49) (xt x 49) (xt x 50) (xt x 51) (xt x 52) (xt x 53) (xt x 54) (xt x 55) (xt x 56) (xt x 57) (xt x 58) = amx x 59 := by
  unfold k0_pay20; simp only [shapeCast_id]; rfl
/-- The run holds here the running maximum over the first 59 tiles. -/
theorem A_r_10 (c : Dev nD) (arg1 : Memref sig .tc .vmem S256x16384 .bf16) (harg1 : arg1.IsWhole) (x0 : Vec F S256x16384 .bf16) : kernelRun0_A.sl.r_10 c arg1 harg1 x0 = amx x0 59 := by
  unfold kernelRun0_A.sl.r_10; rw [A_r_8, A_r_9, rd_x harg1 x0 50 (by decide) _ _ rfl, rd_x harg1 x0 51 (by decide) _ _ rfl, rd_x harg1 x0 52 (by decide) _ _ rfl, rd_x harg1 x0 53 (by decide) _ _ rfl, rd_x harg1 x0 54 (by decide) _ _ rfl, rd_x harg1 x0 55 (by decide) _ _ rfl, rd_x harg1 x0 56 (by decide) _ _ rfl, rd_x harg1 x0 57 (by decide) _ _ rfl, rd_x harg1 x0 58 (by decide) _ _ rfl]; exact k0_pay20_amx x0
/-- The run holds here tile 59 of the input. -/
theorem A_r_11 (c : Dev nD) (arg1 : Memref sig .tc .vmem S256x16384 .bf16) (harg1 : arg1.IsWhole) (x0 : Vec F S256x16384 .bf16) : kernelRun0_A.sl.r_11 c arg1 harg1 x0 = xt x0 59 := by
  unfold kernelRun0_A.sl.r_11; rw [rd_x harg1 x0 59 (by decide) _ _ rfl]; unfold k0_pay21; exact shapeCast_id _ _
/-- This step of the unrolled maximum reaches the running maximum over the first 69 tiles. -/
theorem k0_pay22_amx (x : Vec F S256x16384 .bf16) : k0_pay22 (amx x 59) (xt x 59) (xt x 60) (xt x 61) (xt x 62) (xt x 63) (xt x 64) (xt x 65) (xt x 66) (xt x 67) (xt x 68) = amx x 69 := by
  unfold k0_pay22; simp only [shapeCast_id]; rfl
/-- The run holds here the running maximum over the first 69 tiles. -/
theorem A_r_12 (c : Dev nD) (arg1 : Memref sig .tc .vmem S256x16384 .bf16) (harg1 : arg1.IsWhole) (x0 : Vec F S256x16384 .bf16) : kernelRun0_A.sl.r_12 c arg1 harg1 x0 = amx x0 69 := by
  unfold kernelRun0_A.sl.r_12; rw [A_r_10, A_r_11, rd_x harg1 x0 60 (by decide) _ _ rfl, rd_x harg1 x0 61 (by decide) _ _ rfl, rd_x harg1 x0 62 (by decide) _ _ rfl, rd_x harg1 x0 63 (by decide) _ _ rfl, rd_x harg1 x0 64 (by decide) _ _ rfl, rd_x harg1 x0 65 (by decide) _ _ rfl, rd_x harg1 x0 66 (by decide) _ _ rfl, rd_x harg1 x0 67 (by decide) _ _ rfl, rd_x harg1 x0 68 (by decide) _ _ rfl]; exact k0_pay22_amx x0
/-- The run holds here tile 69 of the input. -/
theorem A_r_13 (c : Dev nD) (arg1 : Memref sig .tc .vmem S256x16384 .bf16) (harg1 : arg1.IsWhole) (x0 : Vec F S256x16384 .bf16) : kernelRun0_A.sl.r_13 c arg1 harg1 x0 = xt x0 69 := by
  unfold kernelRun0_A.sl.r_13; rw [rd_x harg1 x0 69 (by decide) _ _ rfl]; unfold k0_pay23; exact shapeCast_id _ _
/-- This step of the unrolled maximum reaches the running maximum over the first 79 tiles. -/
theorem k0_pay24_amx (x : Vec F S256x16384 .bf16) : k0_pay24 (amx x 69) (xt x 69) (xt x 70) (xt x 71) (xt x 72) (xt x 73) (xt x 74) (xt x 75) (xt x 76) (xt x 77) (xt x 78) = amx x 79 := by
  unfold k0_pay24; simp only [shapeCast_id]; rfl
/-- The run holds here the running maximum over the first 79 tiles. -/
theorem A_r_14 (c : Dev nD) (arg1 : Memref sig .tc .vmem S256x16384 .bf16) (harg1 : arg1.IsWhole) (x0 : Vec F S256x16384 .bf16) : kernelRun0_A.sl.r_14 c arg1 harg1 x0 = amx x0 79 := by
  unfold kernelRun0_A.sl.r_14; rw [A_r_12, A_r_13, rd_x harg1 x0 70 (by decide) _ _ rfl, rd_x harg1 x0 71 (by decide) _ _ rfl, rd_x harg1 x0 72 (by decide) _ _ rfl, rd_x harg1 x0 73 (by decide) _ _ rfl, rd_x harg1 x0 74 (by decide) _ _ rfl, rd_x harg1 x0 75 (by decide) _ _ rfl, rd_x harg1 x0 76 (by decide) _ _ rfl, rd_x harg1 x0 77 (by decide) _ _ rfl, rd_x harg1 x0 78 (by decide) _ _ rfl]; exact k0_pay24_amx x0
/-- The run holds here tile 79 of the input. -/
theorem A_r_15 (c : Dev nD) (arg1 : Memref sig .tc .vmem S256x16384 .bf16) (harg1 : arg1.IsWhole) (x0 : Vec F S256x16384 .bf16) : kernelRun0_A.sl.r_15 c arg1 harg1 x0 = xt x0 79 := by
  unfold kernelRun0_A.sl.r_15; rw [rd_x harg1 x0 79 (by decide) _ _ rfl]; unfold k0_pay25; exact shapeCast_id _ _
/-- This step of the unrolled maximum reaches the running maximum over the first 89 tiles. -/
theorem k0_pay26_amx (x : Vec F S256x16384 .bf16) : k0_pay26 (amx x 79) (xt x 79) (xt x 80) (xt x 81) (xt x 82) (xt x 83) (xt x 84) (xt x 85) (xt x 86) (xt x 87) (xt x 88) = amx x 89 := by
  unfold k0_pay26; simp only [shapeCast_id]; rfl
/-- The run holds here the running maximum over the first 89 tiles. -/
theorem A_r_16 (c : Dev nD) (arg1 : Memref sig .tc .vmem S256x16384 .bf16) (harg1 : arg1.IsWhole) (x0 : Vec F S256x16384 .bf16) : kernelRun0_A.sl.r_16 c arg1 harg1 x0 = amx x0 89 := by
  unfold kernelRun0_A.sl.r_16; rw [A_r_14, A_r_15, rd_x harg1 x0 80 (by decide) _ _ rfl, rd_x harg1 x0 81 (by decide) _ _ rfl, rd_x harg1 x0 82 (by decide) _ _ rfl, rd_x harg1 x0 83 (by decide) _ _ rfl, rd_x harg1 x0 84 (by decide) _ _ rfl, rd_x harg1 x0 85 (by decide) _ _ rfl, rd_x harg1 x0 86 (by decide) _ _ rfl, rd_x harg1 x0 87 (by decide) _ _ rfl, rd_x harg1 x0 88 (by decide) _ _ rfl]; exact k0_pay26_amx x0
/-- The run holds here tile 89 of the input. -/
theorem A_r_17 (c : Dev nD) (arg1 : Memref sig .tc .vmem S256x16384 .bf16) (harg1 : arg1.IsWhole) (x0 : Vec F S256x16384 .bf16) : kernelRun0_A.sl.r_17 c arg1 harg1 x0 = xt x0 89 := by
  unfold kernelRun0_A.sl.r_17; rw [rd_x harg1 x0 89 (by decide) _ _ rfl]; unfold k0_pay27; exact shapeCast_id _ _
/-- This step of the unrolled maximum reaches the running maximum over the first 99 tiles. -/
theorem k0_pay28_amx (x : Vec F S256x16384 .bf16) : k0_pay28 (amx x 89) (xt x 89) (xt x 90) (xt x 91) (xt x 92) (xt x 93) (xt x 94) (xt x 95) (xt x 96) (xt x 97) (xt x 98) = amx x 99 := by
  unfold k0_pay28; simp only [shapeCast_id]; rfl
/-- The run holds here the running maximum over the first 99 tiles. -/
theorem A_r_18 (c : Dev nD) (arg1 : Memref sig .tc .vmem S256x16384 .bf16) (harg1 : arg1.IsWhole) (x0 : Vec F S256x16384 .bf16) : kernelRun0_A.sl.r_18 c arg1 harg1 x0 = amx x0 99 := by
  unfold kernelRun0_A.sl.r_18; rw [A_r_16, A_r_17, rd_x harg1 x0 90 (by decide) _ _ rfl, rd_x harg1 x0 91 (by decide) _ _ rfl, rd_x harg1 x0 92 (by decide) _ _ rfl, rd_x harg1 x0 93 (by decide) _ _ rfl, rd_x harg1 x0 94 (by decide) _ _ rfl, rd_x harg1 x0 95 (by decide) _ _ rfl, rd_x harg1 x0 96 (by decide) _ _ rfl, rd_x harg1 x0 97 (by decide) _ _ rfl, rd_x harg1 x0 98 (by decide) _ _ rfl]; exact k0_pay28_amx x0
/-- The run holds here tile 99 of the input. -/
theorem A_r_19 (c : Dev nD) (arg1 : Memref sig .tc .vmem S256x16384 .bf16) (harg1 : arg1.IsWhole) (x0 : Vec F S256x16384 .bf16) : kernelRun0_A.sl.r_19 c arg1 harg1 x0 = xt x0 99 := by
  unfold kernelRun0_A.sl.r_19; rw [rd_x harg1 x0 99 (by decide) _ _ rfl]; unfold k0_pay29; exact shapeCast_id _ _
/-- This step of the unrolled maximum reaches the running maximum over the first 109 tiles. -/
theorem k0_pay30_amx (x : Vec F S256x16384 .bf16) : k0_pay30 (amx x 99) (xt x 99) (xt x 100) (xt x 101) (xt x 102) (xt x 103) (xt x 104) (xt x 105) (xt x 106) (xt x 107) (xt x 108) = amx x 109 := by
  unfold k0_pay30; simp only [shapeCast_id]; rfl
/-- The run holds here the running maximum over the first 109 tiles. -/
theorem A_r_20 (c : Dev nD) (arg1 : Memref sig .tc .vmem S256x16384 .bf16) (harg1 : arg1.IsWhole) (x0 : Vec F S256x16384 .bf16) : kernelRun0_A.sl.r_20 c arg1 harg1 x0 = amx x0 109 := by
  unfold kernelRun0_A.sl.r_20; rw [A_r_18, A_r_19, rd_x harg1 x0 100 (by decide) _ _ rfl, rd_x harg1 x0 101 (by decide) _ _ rfl, rd_x harg1 x0 102 (by decide) _ _ rfl, rd_x harg1 x0 103 (by decide) _ _ rfl, rd_x harg1 x0 104 (by decide) _ _ rfl, rd_x harg1 x0 105 (by decide) _ _ rfl, rd_x harg1 x0 106 (by decide) _ _ rfl, rd_x harg1 x0 107 (by decide) _ _ rfl, rd_x harg1 x0 108 (by decide) _ _ rfl]; exact k0_pay30_amx x0
/-- The run holds here tile 109 of the input. -/
theorem A_r_21 (c : Dev nD) (arg1 : Memref sig .tc .vmem S256x16384 .bf16) (harg1 : arg1.IsWhole) (x0 : Vec F S256x16384 .bf16) : kernelRun0_A.sl.r_21 c arg1 harg1 x0 = xt x0 109 := by
  unfold kernelRun0_A.sl.r_21; rw [rd_x harg1 x0 109 (by decide) _ _ rfl]; unfold k0_pay31; exact shapeCast_id _ _
/-- This step of the unrolled maximum reaches the running maximum over the first 119 tiles. -/
theorem k0_pay32_amx (x : Vec F S256x16384 .bf16) : k0_pay32 (amx x 109) (xt x 109) (xt x 110) (xt x 111) (xt x 112) (xt x 113) (xt x 114) (xt x 115) (xt x 116) (xt x 117) (xt x 118) = amx x 119 := by
  unfold k0_pay32; simp only [shapeCast_id]; rfl
/-- The run holds here the running maximum over the first 119 tiles. -/
theorem A_r_22 (c : Dev nD) (arg1 : Memref sig .tc .vmem S256x16384 .bf16) (harg1 : arg1.IsWhole) (x0 : Vec F S256x16384 .bf16) : kernelRun0_A.sl.r_22 c arg1 harg1 x0 = amx x0 119 := by
  unfold kernelRun0_A.sl.r_22; rw [A_r_20, A_r_21, rd_x harg1 x0 110 (by decide) _ _ rfl, rd_x harg1 x0 111 (by decide) _ _ rfl, rd_x harg1 x0 112 (by decide) _ _ rfl, rd_x harg1 x0 113 (by decide) _ _ rfl, rd_x harg1 x0 114 (by decide) _ _ rfl, rd_x harg1 x0 115 (by decide) _ _ rfl, rd_x harg1 x0 116 (by decide) _ _ rfl, rd_x harg1 x0 117 (by decide) _ _ rfl, rd_x harg1 x0 118 (by decide) _ _ rfl]; exact k0_pay32_amx x0
/-- The run holds here tile 119 of the input. -/
theorem A_r_23 (c : Dev nD) (arg1 : Memref sig .tc .vmem S256x16384 .bf16) (harg1 : arg1.IsWhole) (x0 : Vec F S256x16384 .bf16) : kernelRun0_A.sl.r_23 c arg1 harg1 x0 = xt x0 119 := by
  unfold kernelRun0_A.sl.r_23; rw [rd_x harg1 x0 119 (by decide) _ _ rfl]; unfold k0_pay33; exact shapeCast_id _ _
/-- Which rows are zero. -/
def zeroA (x : Vec F S256x16384 .bf16) : IVec S256x1 1 := k0_pay35 (amx x 119) (xt x 119) (xt x 120) (xt x 121) (xt x 122) (xt x 123) (xt x 124) (xt x 125) (xt x 126) (xt x 127)
/-- The largest magnitudes over 127. -/
def divA (x : Vec F S256x16384 .bf16) : FVec F S256x1 .f32 := k0_pay36 (amx x 119) (xt x 119) (xt x 120) (xt x 121) (xt x 122) (xt x 123) (xt x 124) (xt x 125) (xt x 126) (xt x 127)
/-- The rows' scales, along the lanes. -/
def sA (x : Vec F S256x16384 .bf16) : Vec F S256x128 .f32 := k0_pay38 (zeroA x) (divA x)

/-- The run holds here the test whether the largest magnitude of each row is zero. -/
theorem A_r_24 (c : Dev nD) (arg1 : Memref sig .tc .vmem S256x16384 .bf16) (harg1 : arg1.IsWhole) (x0 : Vec F S256x16384 .bf16) : kernelRun0_A.sl.r_24 c arg1 harg1 x0 = zeroA x0 := by
  unfold kernelRun0_A.sl.r_24; rw [A_r_22, A_r_23, rd_x harg1 x0 120 (by decide) _ _ rfl, rd_x harg1 x0 121 (by decide) _ _ rfl, rd_x harg1 x0 122 (by decide) _ _ rfl, rd_x harg1 x0 123 (by decide) _ _ rfl, rd_x harg1 x0 124 (by decide) _ _ rfl, rd_x harg1 x0 125 (by decide) _ _ rfl, rd_x harg1 x0 126 (by decide) _ _ rfl, rd_x harg1 x0 127 (by decide) _ _ rfl]; rfl
/-- The run holds here the largest magnitude of each row over 127. -/
theorem A_r_25 (c : Dev nD) (arg1 : Memref sig .tc .vmem S256x16384 .bf16) (harg1 : arg1.IsWhole) (x0 : Vec F S256x16384 .bf16) : kernelRun0_A.sl.r_25 c arg1 harg1 x0 = divA x0 := by
  unfold kernelRun0_A.sl.r_25; rw [A_r_22, A_r_23, rd_x harg1 x0 120 (by decide) _ _ rfl, rd_x harg1 x0 121 (by decide) _ _ rfl, rd_x harg1 x0 122 (by decide) _ _ rfl, rd_x harg1 x0 123 (by decide) _ _ rfl, rd_x harg1 x0 124 (by decide) _ _ rfl, rd_x harg1 x0 125 (by decide) _ _ rfl, rd_x harg1 x0 126 (by decide) _ _ rfl, rd_x harg1 x0 127 (by decide) _ _ rfl]; rfl
/-- The one store into the scale scratch writes the scales of the rows. -/
theorem A_HS1 (c : Dev nD) (arg1 : Memref sig .tc .vmem S256x16384 .bf16) (harg1 : arg1.IsWhole) (x0 : Vec F S256x16384 .bf16) : kernelRun0_A.sl.HS1_1 c arg1 harg1 x0 = [⟨Rect.unit ![0, 0] S256x128.size inb_S256x128_S256x128_0_0, sA x0⟩] := by
  unfold kernelRun0_A.sl.HS1_1; rw [A_r_24, A_r_25]; rfl
/-- The column of scales read back is the column of the scales stored. -/
theorem A_v185 (c : Dev nD) (arg1 : Memref sig .tc .vmem S256x16384 .bf16) (harg1 : arg1.IsWhole) (arg10 : Memref sig .tc .vmem S256x128 .f32) (x0 : Vec F S256x16384 .bf16) : kernelRun0_A.sl.v185 c arg1 harg1 arg10 x0 = scol (sA x0) := by
  unfold kernelRun0_A.sl.v185 scol; rw [A_HS1, readCov_ld, View.canon_cons_unit_lit _ _ _ (by decide)]
/-- The scaled integer product of the first point, from the codes and scales it has just stored. -/
theorem r30_A (c : Dev nD) (i : grid0.Coords) (arg1 : Memref sig .tc .vmem S256x16384 .bf16) (harg1 : arg1.IsWhole) (arg2 : Memref sig .tc .vmem S16384x512 .i8) (harg2 : arg2.IsWhole) (arg3 : Memref sig .tc .vmem S1x512 .f32) (harg3 : arg3.IsWhole) (arg4 : Memref sig .tc .vmem S256x512 .bf16) (harg4 : arg4.IsWhole) (arg5 : Memref sig .tc .vmem S256x16384 .i8) (harg5 : arg5.IsWhole) (arg6 : Memref sig .tc .vmem S2x128 .f32) (harg6 : arg6.IsWhole) (arg7 : Memref sig .tc .vmem S256x6144 .i8) (harg7 : arg7.IsWhole) (arg8 : Memref sig .tc .vmem S2x128 .f32) (harg8 : arg8.IsWhole) (arg9 : Memref sig .tc .vmem S256x16384 .bf16) (harg9 : arg9.IsWhole) (arg10 : Memref sig .tc .vmem S256x128 .f32) (harg10 : arg10.IsWhole) (arg11 : Memref sig .tc .vmem S256x512 .i32) (harg11 : arg11.IsWhole) (arg12 : Memref sig .tc .vmem S256x6144 .f32) (harg12 : arg12.IsWhole) (arg13 : Memref sig .tc .vmem S256x128 .f32) (harg13 : arg13.IsWhole) (hc0 : cond0_0 i) (x0 : Vec F S256x16384 .bf16) (x1 : Vec F S16384x512 .i8) :
    kernelRun0_A.sl.r_30 c i arg1 harg1 arg2 harg2 arg3 harg3 arg4 harg4 arg5 harg5 arg6 harg6 arg7 harg7 arg8 harg8 arg9 harg9 arg10 harg10 arg11 harg11 arg12 harg12 arg13 harg13 hc0 x0 x1 = RR (qA c i arg1 harg1 arg2 harg2 arg3 harg3 arg4 harg4 arg5 harg5 arg6 harg6 arg7 harg7 arg8 harg8 arg9 harg9 arg10 harg10 arg11 harg11 arg12 harg12 arg13 harg13 hc0 x0) (sA x0) x1 := by
  unfold kernelRun0_A.sl.r_30 RR; rw [A_v183, A_v185]

/-- What the scratch of the codes holds after the first point. -/
def qAt (c : Dev nD) (t : Fin cfg0.N) (h0 : cond0_0 (grid0.coords t)) (x0 : Vec F S256x16384 .bf16) : Vec F S256x16384 .bf16 :=
  qA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 x0

/-- The codes the first point leaves in the scratch. -/
theorem stA_q (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : (stA c t h0 h1 x0 x1 x2 X).q = qAt c t h0 x0 := by
  unfold stA runA kernelRun0_A; dsimp only; rfl
/-- The scales the first point leaves in the scratch. -/
theorem stA_s (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : (stA c t h0 h1 x0 x1 x2 X).s = sA x0 := by
  unfold stA runA kernelRun0_A; dsimp only
  rw [A_HS1, View.canon_cons_unit_lit _ _ _ (by decide)]
/-- The block of the result the first point stores. -/
theorem stA_y (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : (stA c t h0 h1 x0 x1 x2 X).y = k0_pay2 (RR (qAt c t h0 x0) (sA x0) x1) x2 := by
  unfold stA runA kernelRun0_A; dsimp only
  rw [View.canon_cons_unit_lit _ _ _ (by decide), r30_A, readAt_unread, ld_full]; rfl
/-- The running maximum after the first point. -/
theorem stA_a (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : (stA c t h0 h1 x0 x1 x2 X).a = k0_pay4 (RR (qAt c t h0 x0) (sA x0) x1) x2 k0_pay41 := by
  unfold stA runA kernelRun0_A; dsimp only
  rw [View.canon_cons_unit_lit _ _ _ (by decide), r30_A, readAt_unread, ld_full]
  unfold kernelRun0_A.sl.v200 kernelRun0_A.sl.HS4_1
  rw [View.readCov_full]; rfl
/-- The result so far. -/
theorem stA_Y (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : (stA c t h0 h1 x0 x1 x2 X).Y = putB t.val (k0_pay3 (RR (qAt c t h0 x0) (sA x0) x1) x2) X := by
  unfold stA runA kernelRun0_A; dsimp only
  rw [put12_eq, r30_A, readAt_unread, ld_full]; rfl
/-- The scales of the rows, as the two stored rows. -/
theorem stA_xs (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) : (stA c t h0 h1 x0 x1 x2 X).xs = View.canon [⟨Rect.unit (s := S2x128) ![1, 0] S1x128.size inb_S2x128_S1x128_1_0, k0_pay40 (zeroA x0) (divA x0)⟩, ⟨Rect.unit (s := S2x128) ![0, 0] S1x128.size inb_S2x128_S1x128_0_0, k0_pay39 (zeroA x0) (divA x0)⟩] := by
  unfold stA runA kernelRun0_A; dsimp only
  unfold kernelRun0_A.sl.H5_2
  rw [A_r_24, A_r_25]

/-- Reading the first column of the scale scratch gives the scales stored. -/
theorem rd_s {M : Memref sig .tc .vmem S256x128 .f32} (s : Vec F S256x128 .f32) (r : Fin 256) :
    View.readAt (Elt F) M.view (Rect.unit (s := S256x128) ![0, 0] S256x1.size inb_S256x128_S256x1_0_0).toLoadRect (M.view.writes (Elt F) M.view.junk [⟨Rect.unit ![0, 0] S256x128.size inb_S256x128_S256x128_0_0, s⟩]) (ix2 r 0 : S256x1.Idx) = s (ix2 r 0) := by
  rw [View.readAt_eq_ld]
  exact (congrArg (fun z => View.ld z (Rect.unit (s := S256x128) ![0, 0] S256x1.size inb_S256x128_S256x1_0_0) (ix2 r 0 : S256x1.Idx)) (View.read_writes_full _ _ _ _ _)).trans (ld_col s r)

/-- The codes of the rows as the first point leaves them, both as i8 and in the scratch. -/
theorem stA_codes (c : Dev nD) (t : Fin cfg0.N) (h0 : cond0_0 (grid0.coords t)) (h1 : ¬cond0_1 (grid0.coords t)) (x0 : Vec F S256x16384 .bf16) (x1 : Vec F S16384x512 .i8) (x2 : Vec F S1x512 .f32) (X : Vec F S256x6144 .f32) (j : S256x16384.Idx) :
    (stA c t h0 h1 x0 x1 x2 X).xc j = FloatOps.fptosi 8 (clip8 (FloatOps.extf .f32 bitsLt_bf16_f32 (x0 j)) (sA x0 (ix2 (j 0) 0)))
    ∧ qAt c t h0 x0 j = FloatOps.truncf .bf16 bitsLt_bf16_f32 (clip8 (FloatOps.extf .f32 bitsLt_bf16_f32 (x0 j)) (sA x0 (ix2 (j 0) 0))) := by
  have e := canon1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h0 x0 (scM0_1.view.writes (Elt F) scM0_1.view.junk (kernelRun0_A.sl.HS1_1 c (ms0_0 t) (hs0_0 t) x0)) (Scf.trips k0_t1_loop.lb k0_t1_loop.ub k0_t1_loop.st) (le_refl _) j (lt_of_lt_of_eq (j 1).isLt (congrArg (1024 * ·) trips1_16).symm)
  rw [A_HS1] at e
  have hs := rd_s (M := scM0_1) (sA x0) (j 0)
  refine ⟨?_, ?_⟩
  · unfold stA runA kernelRun0_A; dsimp only
    rw [A_HS1]
    exact e.1.trans (congrArg (fun z => FloatOps.fptosi 8 (clip8 (FloatOps.extf .f32 bitsLt_bf16_f32 (x0 j)) z)) hs)
  · unfold qAt qA
    rw [A_HS1]
    exact e.2.trans (congrArg (fun z => FloatOps.truncf .bf16 bitsLt_bf16_f32 (clip8 (FloatOps.extf .f32 bitsLt_bf16_f32 (x0 j)) z)) hs)

end Cert.KernelIdeal.Hand

end
-- ==== Proof.KernelIdeal.ChainB.lean ====
/- The block product in case B. -/
module

public import proofs.«01_k».proof.Proof.KernelIdeal.Chain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- At the middle point, load 0 of the integer sums gives the sum of the first 0 tile products. -/
theorem B_v11 (c : Dev nD) (arg11 : Memref sig .tc .vmem S256x512 .i32) (q : Vec F S256x16384 .bf16) (x1 : Vec F S16384x512 .i8) : kernelRun0_B.sl.v11 (F := F) c arg11 = chain q x1 0 := by
  unfold kernelRun0_B.sl.v11 kernelRun0_B.sl.HS2_1; rw [View.readCov_full]; rfl
/-- At the middle point, load 1 of the integer sums gives the sum of the first 1 tile products. -/
theorem B_v22 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v22 c arg2 harg2 arg9 harg9 arg11 x1 q = chain q x1 1 := by
  unfold kernelRun0_B.sl.v22 kernelRun0_B.sl.HS2_2; rw [View.readCov_full, B_v11 c arg11 q x1]
  rw [readAt_unread, readAt_unread, ld_q _ 0 (by decide) _ _ rfl, ld_w _ 0 (by decide) _ _ rfl]; rfl
/-- At the middle point, load 2 of the integer sums gives the sum of the first 2 tile products. -/
theorem B_v33 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v33 c arg2 harg2 arg9 harg9 arg11 x1 q = chain q x1 2 := by
  unfold kernelRun0_B.sl.v33 kernelRun0_B.sl.HS2_3; rw [View.readCov_full, step47, B_v22]
  rw [readAt_unread, readAt_unread, ld_q _ 1 (by decide) _ _ rfl, ld_w _ 1 (by decide) _ _ rfl]; rfl
/-- At the middle point, load 3 of the integer sums gives the sum of the first 3 tile products. -/
theorem B_v44 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v44 c arg2 harg2 arg9 harg9 arg11 x1 q = chain q x1 3 := by
  unfold kernelRun0_B.sl.v44 kernelRun0_B.sl.HS2_4 kernelRun0_B.sl.r; rw [View.readCov_full, step48, B_v33]
  rw [readAt_unread, readAt_unread, ld_q _ 2 (by decide) _ _ rfl, ld_w _ 2 (by decide) _ _ rfl]; rfl
/-- At the middle point, load 4 of the integer sums gives the sum of the first 4 tile products. -/
theorem B_v55 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v55 c arg2 harg2 arg9 harg9 arg11 x1 q = chain q x1 4 := by
  unfold kernelRun0_B.sl.v55 kernelRun0_B.sl.HS2_5; rw [View.readCov_full, step49, B_v44]
  rw [readAt_unread, readAt_unread, ld_q _ 3 (by decide) _ _ rfl, ld_w _ 3 (by decide) _ _ rfl]; rfl
/-- At the middle point, load 5 of the integer sums gives the sum of the first 5 tile products. -/
theorem B_v66 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v66 c arg2 harg2 arg9 harg9 arg11 x1 q = chain q x1 5 := by
  unfold kernelRun0_B.sl.v66 kernelRun0_B.sl.HS2_6; rw [View.readCov_full, step50, B_v55]
  rw [readAt_unread, readAt_unread, ld_q _ 4 (by decide) _ _ rfl, ld_w _ 4 (by decide) _ _ rfl]; rfl
/-- At the middle point, load 6 of the integer sums gives the sum of the first 6 tile products. -/
theorem B_v77 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v77 c arg2 harg2 arg9 harg9 arg11 x1 q = chain q x1 6 := by
  unfold kernelRun0_B.sl.v77 kernelRun0_B.sl.HS2_7; rw [View.readCov_full, step51, B_v66]
  rw [readAt_unread, readAt_unread, ld_q _ 5 (by decide) _ _ rfl, ld_w _ 5 (by decide) _ _ rfl]; rfl
/-- At the middle point, load 7 of the integer sums gives the sum of the first 7 tile products. -/
theorem B_v88 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v88 c arg2 harg2 arg9 harg9 arg11 x1 q = chain q x1 7 := by
  unfold kernelRun0_B.sl.v88 kernelRun0_B.sl.HS2_8; rw [View.readCov_full, step52, B_v77]
  rw [readAt_unread, readAt_unread, ld_q _ 6 (by decide) _ _ rfl, ld_w _ 6 (by decide) _ _ rfl]; rfl
/-- At the middle point, load 8 of the integer sums gives the sum of the first 8 tile products. -/
theorem B_v99 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v99 c arg2 harg2 arg9 harg9 arg11 x1 q = chain q x1 8 := by
  unfold kernelRun0_B.sl.v99 kernelRun0_B.sl.HS2_9 kernelRun0_B.sl.r_1; rw [View.readCov_full, step53, B_v88]
  rw [readAt_unread, readAt_unread, ld_q _ 7 (by decide) _ _ rfl, ld_w _ 7 (by decide) _ _ rfl]; rfl
/-- At the middle point, load 9 of the integer sums gives the sum of the first 9 tile products. -/
theorem B_v110 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v110 c arg2 harg2 arg9 harg9 arg11 x1 q = chain q x1 9 := by
  unfold kernelRun0_B.sl.v110 kernelRun0_B.sl.HS2_10; rw [View.readCov_full, step55, B_v99]
  rw [readAt_unread, readAt_unread, ld_q _ 8 (by decide) _ _ rfl, ld_w _ 8 (by decide) _ _ rfl]; rfl
/-- At the middle point, load 10 of the integer sums gives the sum of the first 10 tile products. -/
theorem B_v121 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v121 c arg2 harg2 arg9 harg9 arg11 x1 q = chain q x1 10 := by
  unfold kernelRun0_B.sl.v121 kernelRun0_B.sl.HS2_11; rw [View.readCov_full, step56, B_v110]
  rw [readAt_unread, readAt_unread, ld_q _ 9 (by decide) _ _ rfl, ld_w _ 9 (by decide) _ _ rfl]; rfl
/-- At the middle point, load 11 of the integer sums gives the sum of the first 11 tile products. -/
theorem B_v132 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v132 c arg2 harg2 arg9 harg9 arg11 x1 q = chain q x1 11 := by
  unfold kernelRun0_B.sl.v132 kernelRun0_B.sl.HS2_12 kernelRun0_B.sl.r_2; rw [View.readCov_full, step57, B_v121]
  rw [readAt_unread, readAt_unread, ld_q _ 10 (by decide) _ _ rfl, ld_w _ 10 (by decide) _ _ rfl]; rfl
/-- At the middle point, load 12 of the integer sums gives the sum of the first 12 tile products. -/
theorem B_v143 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v143 c arg2 harg2 arg9 harg9 arg11 x1 q = chain q x1 12 := by
  unfold kernelRun0_B.sl.v143 kernelRun0_B.sl.HS2_13; rw [View.readCov_full, step59, B_v132]
  rw [readAt_unread, readAt_unread, ld_q _ 11 (by decide) _ _ rfl, ld_w _ 11 (by decide) _ _ rfl]; rfl
/-- At the middle point, load 13 of the integer sums gives the sum of the first 13 tile products. -/
theorem B_v154 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v154 c arg2 harg2 arg9 harg9 arg11 x1 q = chain q x1 13 := by
  unfold kernelRun0_B.sl.v154 kernelRun0_B.sl.HS2_14; rw [View.readCov_full, step60, B_v143]
  rw [readAt_unread, readAt_unread, ld_q _ 12 (by decide) _ _ rfl, ld_w _ 12 (by decide) _ _ rfl]; rfl
/-- At the middle point, load 14 of the integer sums gives the sum of the first 14 tile products. -/
theorem B_v165 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v165 c arg2 harg2 arg9 harg9 arg11 x1 q = chain q x1 14 := by
  unfold kernelRun0_B.sl.v165 kernelRun0_B.sl.HS2_15 kernelRun0_B.sl.r_3; rw [View.readCov_full, step61, B_v154]
  rw [readAt_unread, readAt_unread, ld_q _ 13 (by decide) _ _ rfl, ld_w _ 13 (by decide) _ _ rfl]; rfl
/-- At the middle point, load 15 of the integer sums gives the sum of the first 15 tile products. -/
theorem B_v176 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v176 c arg2 harg2 arg9 harg9 arg11 x1 q = chain q x1 15 := by
  unfold kernelRun0_B.sl.v176 kernelRun0_B.sl.HS2_16; rw [View.readCov_full, step63, B_v165]
  rw [readAt_unread, readAt_unread, ld_q _ 14 (by decide) _ _ rfl, ld_w _ 14 (by decide) _ _ rfl]; rfl
/-- At the middle point, load 16 of the integer sums gives the sum of the first 16 tile products. -/
theorem B_v183 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_B.sl.v183 c arg2 harg2 arg9 harg9 arg11 x1 q = chain q x1 16 := by
  unfold kernelRun0_B.sl.v183 kernelRun0_B.sl.HS2_17; rw [View.readCov_full, step64, B_v176]
  rw [readAt_unread, readAt_unread, ld_q _ 15 (by decide) _ _ rfl, ld_w _ 15 (by decide) _ _ rfl]; rfl

end Cert.KernelIdeal.Hand

end
-- ==== Proof.KernelIdeal.StateB.lean ====
/- What the body leaves in case B, as equations. -/
module

public import proofs.«01_k».proof.Proof.KernelIdeal.StateBase
public import proofs.«01_k».proof.Proof.KernelIdeal.ChainB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The scaled integer product of a middle point, from the codes and scales in the scratch. -/
theorem r4_B (c : Dev nD) (arg2 : Memref sig .tc .vmem S16384x512 .i8) (harg2 : arg2.IsWhole) (arg9 : Memref sig .tc .vmem S256x16384 .bf16) (harg9 : arg9.IsWhole) (arg10 : Memref sig .tc .vmem S256x128 .f32) (harg10 : arg10.IsWhole) (arg11 : Memref sig .tc .vmem S256x512 .i32) (x1 : Vec F S16384x512 .i8) (q : Vec F S256x16384 .bf16) (s : Vec F S256x128 .f32) :
    kernelRun0_B.sl.r_4 c arg2 harg2 arg9 harg9 arg10 harg10 arg11 x1 q s = RR q s x1 := by
  unfold kernelRun0_B.sl.r_4 RR scol
  rw [B_v183, readAt_unread]

/-- The block of the result the point stores. -/
theorem stB_y (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) : (stB c t h0 h1 x0 x1 x2 p).y = k0_pay2 (RR p.q p.s x1) x2 := by
  unfold stB runB kernelRun0_B; dsimp only
  rw [View.canon_cons_unit_lit _ _ _ (by decide), r4_B, readAt_unread, ld_full]
/-- The running maximum after the point. -/
theorem stB_a (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) : (stB c t h0 h1 x0 x1 x2 p).a = k0_pay4 (RR p.q p.s x1) x2 p.a := by
  unfold stB runB kernelRun0_B; dsimp only
  rw [View.canon_cons_unit_lit _ _ _ (by decide), r4_B, readAt_unread (M := scM0_4), readAt_unread, ld_full, ld_full]
/-- The result so far. -/
theorem stB_Y (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) : (stB c t h0 h1 x0 x1 x2 p).Y = putB t.val (k0_pay3 (RR p.q p.s x1) x2) p.Y := by
  unfold stB runB kernelRun0_B; dsimp only
  rw [put12_eq, r4_B, readAt_unread, ld_full]
/-- A middle point leaves the codes in the scratch as they were. -/
theorem stB_q (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) : (stB c t h0 h1 x0 x1 x2 p).q = p.q := by unfold stB; rfl
/-- A middle point leaves the scales in the scratch as they were. -/
theorem stB_s (c : Dev nD) (t : Fin cfg0.N) (h0 : ¬cond0_0 (grid0.coords t)) (h1 : ¬cond0_1 (grid0.coords t)) (x0 : Vec F S256x16384 .bf16) (x1 : Vec F S16384x512 .i8) (x2 : Vec F S1x512 .f32) (p : St F) : (stB c t h0 h1 x0 x1 x2 p).s = p.s := by unfold stB; rfl

end Cert.KernelIdeal.Hand

end
-- ==== Proof.KernelIdeal.ChainC.lean ====
/- The block product in case C. -/
module

public import proofs.«01_k».proof.Proof.KernelIdeal.Chain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- At the last point, load 0 of the integer sums gives the sum of the first 0 tile products. -/
theorem C_v11 (c : Dev nD) (arg11 : Memref sig .tc .vmem S256x512 .i32) (q : Vec F S256x16384 .bf16) (x1 : Vec F S16384x512 .i8) : kernelRun0_C.sl.v11 (F := F) c arg11 = chain q x1 0 := by
  unfold kernelRun0_C.sl.v11 kernelRun0_C.sl.HS2_1; rw [View.readCov_full]; rfl
/-- At the last point, load 1 of the integer sums gives the sum of the first 1 tile products. -/
theorem C_v22 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v22 c arg2 harg2 arg9 harg9 arg11 x1 q = chain q x1 1 := by
  unfold kernelRun0_C.sl.v22 kernelRun0_C.sl.HS2_2; rw [View.readCov_full, C_v11 c arg11 q x1]
  rw [readAt_unread, readAt_unread, ld_q _ 0 (by decide) _ _ rfl, ld_w _ 0 (by decide) _ _ rfl]; rfl
/-- At the last point, load 2 of the integer sums gives the sum of the first 2 tile products. -/
theorem C_v33 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v33 c arg2 harg2 arg9 harg9 arg11 x1 q = chain q x1 2 := by
  unfold kernelRun0_C.sl.v33 kernelRun0_C.sl.HS2_3; rw [View.readCov_full, step47, C_v22]
  rw [readAt_unread, readAt_unread, ld_q _ 1 (by decide) _ _ rfl, ld_w _ 1 (by decide) _ _ rfl]; rfl
/-- At the last point, load 3 of the integer sums gives the sum of the first 3 tile products. -/
theorem C_v44 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v44 c arg2 harg2 arg9 harg9 arg11 x1 q = chain q x1 3 := by
  unfold kernelRun0_C.sl.v44 kernelRun0_C.sl.HS2_4 kernelRun0_C.sl.r; rw [View.readCov_full, step48, C_v33]
  rw [readAt_unread, readAt_unread, ld_q _ 2 (by decide) _ _ rfl, ld_w _ 2 (by decide) _ _ rfl]; rfl
/-- At the last point, load 4 of the integer sums gives the sum of the first 4 tile products. -/
theorem C_v55 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v55 c arg2 harg2 arg9 harg9 arg11 x1 q = chain q x1 4 := by
  unfold kernelRun0_C.sl.v55 kernelRun0_C.sl.HS2_5; rw [View.readCov_full, step49, C_v44]
  rw [readAt_unread, readAt_unread, ld_q _ 3 (by decide) _ _ rfl, ld_w _ 3 (by decide) _ _ rfl]; rfl
/-- At the last point, load 5 of the integer sums gives the sum of the first 5 tile products. -/
theorem C_v66 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v66 c arg2 harg2 arg9 harg9 arg11 x1 q = chain q x1 5 := by
  unfold kernelRun0_C.sl.v66 kernelRun0_C.sl.HS2_6; rw [View.readCov_full, step50, C_v55]
  rw [readAt_unread, readAt_unread, ld_q _ 4 (by decide) _ _ rfl, ld_w _ 4 (by decide) _ _ rfl]; rfl
/-- At the last point, load 6 of the integer sums gives the sum of the first 6 tile products. -/
theorem C_v77 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v77 c arg2 harg2 arg9 harg9 arg11 x1 q = chain q x1 6 := by
  unfold kernelRun0_C.sl.v77 kernelRun0_C.sl.HS2_7; rw [View.readCov_full, step51, C_v66]
  rw [readAt_unread, readAt_unread, ld_q _ 5 (by decide) _ _ rfl, ld_w _ 5 (by decide) _ _ rfl]; rfl
/-- At the last point, load 7 of the integer sums gives the sum of the first 7 tile products. -/
theorem C_v88 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v88 c arg2 harg2 arg9 harg9 arg11 x1 q = chain q x1 7 := by
  unfold kernelRun0_C.sl.v88 kernelRun0_C.sl.HS2_8; rw [View.readCov_full, step52, C_v77]
  rw [readAt_unread, readAt_unread, ld_q _ 6 (by decide) _ _ rfl, ld_w _ 6 (by decide) _ _ rfl]; rfl
/-- At the last point, load 8 of the integer sums gives the sum of the first 8 tile products. -/
theorem C_v99 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v99 c arg2 harg2 arg9 harg9 arg11 x1 q = chain q x1 8 := by
  unfold kernelRun0_C.sl.v99 kernelRun0_C.sl.HS2_9 kernelRun0_C.sl.r_1; rw [View.readCov_full, step53, C_v88]
  rw [readAt_unread, readAt_unread, ld_q _ 7 (by decide) _ _ rfl, ld_w _ 7 (by decide) _ _ rfl]; rfl
/-- At the last point, load 9 of the integer sums gives the sum of the first 9 tile products. -/
theorem C_v110 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v110 c arg2 harg2 arg9 harg9 arg11 x1 q = chain q x1 9 := by
  unfold kernelRun0_C.sl.v110 kernelRun0_C.sl.HS2_10; rw [View.readCov_full, step55, C_v99]
  rw [readAt_unread, readAt_unread, ld_q _ 8 (by decide) _ _ rfl, ld_w _ 8 (by decide) _ _ rfl]; rfl
/-- At the last point, load 10 of the integer sums gives the sum of the first 10 tile products. -/
theorem C_v121 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v121 c arg2 harg2 arg9 harg9 arg11 x1 q = chain q x1 10 := by
  unfold kernelRun0_C.sl.v121 kernelRun0_C.sl.HS2_11; rw [View.readCov_full, step56, C_v110]
  rw [readAt_unread, readAt_unread, ld_q _ 9 (by decide) _ _ rfl, ld_w _ 9 (by decide) _ _ rfl]; rfl
/-- At the last point, load 11 of the integer sums gives the sum of the first 11 tile products. -/
theorem C_v132 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v132 c arg2 harg2 arg9 harg9 arg11 x1 q = chain q x1 11 := by
  unfold kernelRun0_C.sl.v132 kernelRun0_C.sl.HS2_12 kernelRun0_C.sl.r_2; rw [View.readCov_full, step57, C_v121]
  rw [readAt_unread, readAt_unread, ld_q _ 10 (by decide) _ _ rfl, ld_w _ 10 (by decide) _ _ rfl]; rfl
/-- At the last point, load 12 of the integer sums gives the sum of the first 12 tile products. -/
theorem C_v143 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v143 c arg2 harg2 arg9 harg9 arg11 x1 q = chain q x1 12 := by
  unfold kernelRun0_C.sl.v143 kernelRun0_C.sl.HS2_13; rw [View.readCov_full, step59, C_v132]
  rw [readAt_unread, readAt_unread, ld_q _ 11 (by decide) _ _ rfl, ld_w _ 11 (by decide) _ _ rfl]; rfl
/-- At the last point, load 13 of the integer sums gives the sum of the first 13 tile products. -/
theorem C_v154 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v154 c arg2 harg2 arg9 harg9 arg11 x1 q = chain q x1 13 := by
  unfold kernelRun0_C.sl.v154 kernelRun0_C.sl.HS2_14; rw [View.readCov_full, step60, C_v143]
  rw [readAt_unread, readAt_unread, ld_q _ 12 (by decide) _ _ rfl, ld_w _ 12 (by decide) _ _ rfl]; rfl
/-- At the last point, load 14 of the integer sums gives the sum of the first 14 tile products. -/
theorem C_v165 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v165 c arg2 harg2 arg9 harg9 arg11 x1 q = chain q x1 14 := by
  unfold kernelRun0_C.sl.v165 kernelRun0_C.sl.HS2_15 kernelRun0_C.sl.r_3; rw [View.readCov_full, step61, C_v154]
  rw [readAt_unread, readAt_unread, ld_q _ 13 (by decide) _ _ rfl, ld_w _ 13 (by decide) _ _ rfl]; rfl
/-- At the last point, load 15 of the integer sums gives the sum of the first 15 tile products. -/
theorem C_v176 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v176 c arg2 harg2 arg9 harg9 arg11 x1 q = chain q x1 15 := by
  unfold kernelRun0_C.sl.v176 kernelRun0_C.sl.HS2_16; rw [View.readCov_full, step63, C_v165]
  rw [readAt_unread, readAt_unread, ld_q _ 14 (by decide) _ _ rfl, ld_w _ 14 (by decide) _ _ rfl]; rfl
/-- At the last point, load 16 of the integer sums gives the sum of the first 16 tile products. -/
theorem C_v183 (c : Dev nD) (arg2 : Memref sig .tc .vmem S16384x512 .i8) (harg2 : arg2.IsWhole) (arg9 : Memref sig .tc .vmem S256x16384 .bf16) (harg9 : arg9.IsWhole) (arg11 : Memref sig .tc .vmem S256x512 .i32) (x1 : Vec F S16384x512 .i8) (q : Vec F S256x16384 .bf16) : kernelRun0_C.sl.v183 c arg2 harg2 arg9 harg9 arg11 x1 q = chain q x1 16 := by
  unfold kernelRun0_C.sl.v183 kernelRun0_C.sl.HS2_17; rw [View.readCov_full, step64, C_v176]
  rw [readAt_unread, readAt_unread, ld_q _ 15 (by decide) _ _ rfl, ld_w _ 15 (by decide) _ _ rfl]; rfl

end Cert.KernelIdeal.Hand

end
-- ==== Proof.KernelIdeal.StateC.lean ====
/- What the body leaves in case C, as equations. -/
module

public import proofs.«01_k».proof.Proof.KernelIdeal.StateBase
public import proofs.«01_k».proof.Proof.KernelIdeal.ChainC
public import proofs.«01_k».proof.Proof.KernelIdeal.LoopVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The scaled integer product of the last point, from the codes and scales in the scratch. -/
theorem r4_C (c : Dev nD) (arg2 : Memref sig .tc .vmem S16384x512 .i8) (harg2 : arg2.IsWhole) (arg9 : Memref sig .tc .vmem S256x16384 .bf16) (harg9 : arg9.IsWhole) (arg10 : Memref sig .tc .vmem S256x128 .f32) (harg10 : arg10.IsWhole) (arg11 : Memref sig .tc .vmem S256x512 .i32) (x1 : Vec F S16384x512 .i8) (q : Vec F S256x16384 .bf16) (s : Vec F S256x128 .f32) :
    kernelRun0_C.sl.r_4 c arg2 harg2 arg9 harg9 arg10 harg10 arg11 x1 q s = RR q s x1 := by
  unfold kernelRun0_C.sl.r_4 RR scol
  rw [C_v183, readAt_unread]

/-- The largest magnitudes the last point reads back are those that include its own block. -/
theorem v219_C (c : Dev nD) (arg2 : Memref sig .tc .vmem S16384x512 .i8) (harg2 : arg2.IsWhole) (arg3 : Memref sig .tc .vmem S1x512 .f32) (harg3 : arg3.IsWhole) (arg9 : Memref sig .tc .vmem S256x16384 .bf16) (harg9 : arg9.IsWhole) (arg10 : Memref sig .tc .vmem S256x128 .f32) (harg10 : arg10.IsWhole) (arg11 : Memref sig .tc .vmem S256x512 .i32) (arg13 : Memref sig .tc .vmem S256x128 .f32) (harg13 : arg13.IsWhole) (x1 : Vec F S16384x512 .i8) (x2 : Vec F S1x512 .f32) (q : Vec F S256x16384 .bf16) (s : Vec F S256x128 .f32) (a : Vec F S256x128 .f32) :
    kernelRun0_C.sl.v219 c arg2 harg2 arg3 harg3 arg9 harg9 arg10 harg10 arg11 arg13 harg13 x1 x2 q s a = k0_pay4 (RR q s x1) x2 a := by
  unfold kernelRun0_C.sl.v219 kernelRun0_C.sl.HS4_1
  rw [View.readCov_full, r4_C, readAt_unread, readAt_unread, ld_full, ld_full]

/-- The block of the result the point stores. -/
theorem stC_y (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : (stC c t h0 h1 x0 x1 x2 p).y = k0_pay2 (RR p.q p.s x1) x2 := by
  unfold stC runC kernelRun0_C; dsimp only; unfold kernelRun0_C.sl.H3_1
  rw [View.canon_cons_unit_lit _ _ _ (by decide), r4_C, readAt_unread, ld_full]
/-- The running maximum after the point. -/
theorem stC_a (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : (stC c t h0 h1 x0 x1 x2 p).a = k0_pay8 (k0_pay4 (RR p.q p.s x1) x2 p.a) := by
  unfold stC runC kernelRun0_C; dsimp only; unfold kernelRun0_C.sl.HS4_2
  rw [View.canon_cons_unit_lit _ _ _ (by decide), v219_C]
/-- The result so far. -/
theorem stC_Y (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : (stC c t h0 h1 x0 x1 x2 p).Y = putB t.val (k0_pay3 (RR p.q p.s x1) x2) p.Y := by
  unfold stC runC kernelRun0_C; dsimp only
  rw [put12_eq, r4_C, readAt_unread, ld_full]
/-- The last point leaves the codes in the scratch as they were. -/
theorem stC_q (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : (stC c t h0 h1 x0 x1 x2 p).q = p.q := by unfold stC; rfl
/-- The last point leaves the scales in the scratch as they were. -/
theorem stC_s (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : (stC c t h0 h1 x0 x1 x2 p).s = p.s := by unfold stC; rfl

/-- The scales of the result, as the two stored rows. -/
theorem stC_ys (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) : (stC c t h0 h1 x0 x1 x2 p).ys = View.canon [⟨Rect.unit (s := S2x128) ![1, 0] ![1, 128] inb_S2x128_S1x128_1_0, k0_pay7 (k0_pay4 (RR p.q p.s x1) x2 p.a)⟩, ⟨Rect.unit (s := S2x128) ![0, 0] ![1, 128] inb_S2x128_S1x128_0_0, k0_pay6 (k0_pay4 (RR p.q p.s x1) x2 p.a)⟩] := by
  unfold stC runC kernelRun0_C; dsimp only; unfold kernelRun0_C.sl.H7_2
  rw [v219_C]

/-- A buffer overwritten as a whole holds what was stored last. -/
theorem whole_unread {sh : Shape} {e : EltTy} (M : Memref sig .tc .vmem sh e) (h : M.IsWhole) (f : M.view.ty.Contents (Elt F)) (off : Fin sh.rank → ℕ) (inb : ∀ a, off a + sh.size a ≤ sh.size a) (w : Vec F sh e) (L : List (View.Piece (Elt F) sh e)) :
    M.view.writes (Elt F) f (⟨Rect.unit off sh.size inb, w⟩ :: L) = h.unread w :=
  h.eq_unread (View.read_writes_full _ _ _ _ _)

/-- After its store the scratch of largest magnitudes holds the scales of the result rows. -/
theorem x13_C (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) :
    (runC c t h0 h1 x0 x1 x2 q s a).2.2.2.1 = (Memref.isWhole_whole _ : scM0_4.IsWhole).unread (k0_pay8 (k0_pay4 (RR q s x1) x2 a)) := by
  unfold runC kernelRun0_C; dsimp only
  unfold kernelRun0_C.sl.HS4_2
  rw [v219_C]
  exact whole_unread scM0_4 (Memref.isWhole_whole _) _ _ inb_S256x128_S256x128_0_0 _ _

/-- A result code the last point stores: the entry of the scratch result over the scale of its row, rounded, clipped and converted. -/
theorem codesL_at (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (q : Vec F S256x16384 .bf16) (s : Vec F S256x128 .f32) (a : Vec F S256x128 .f32) (X : Vec F S256x6144 .f32) (j : S256x6144.Idx) :
    View.canon (codesL c t h0 h1 x0 x1 x2 q s a X) j
      = FloatOps.fptosi 8 (clip8 (X j) (k0_pay8 (k0_pay4 (RR q s x1) x2 a) (ix2 (j 0) 0))) := by
  unfold codesL
  rw [x13_C]
  exact (canon2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) h1 X (k0_pay8 (k0_pay4 (RR q s x1) x2 a)) _ (le_refl _) j (by rw [trips2_6]; exact (j 1).isLt)).trans (congrArg (fun z => FloatOps.fptosi 8 (clip8 (X j) z)) (ld_col _ (j 0)))

/-- The codes of the result: each element of the filled scratch over its row's scale. -/
theorem stC_yc (c : Dev nD) (t : Fin cfg0.N) (h0 : ¬cond0_0 (grid0.coords t)) (h1 : cond0_1 (grid0.coords t)) (x0 : Vec F S256x16384 .bf16) (x1 : Vec F S16384x512 .i8) (x2 : Vec F S1x512 .f32) (p : St F) (j : S256x6144.Idx) : (stC c t h0 h1 x0 x1 x2 p).yc j
    = FloatOps.fptosi 8 (clip8 ((stC c t h0 h1 x0 x1 x2 p).Y j) (k0_pay8 (k0_pay4 (RR p.q p.s x1) x2 p.a) (ix2 (j 0) 0))) := by
  unfold stC; dsimp only
  exact codesL_at ..

end Cert.KernelIdeal.Hand

end
-- ==== Proof.KernelIdeal.StateT.lean ====
/- What the carried contents are at every grid point. -/
module

public import proofs.«01_k».proof.Proof.KernelIdeal.StateA
public import proofs.«01_k».proof.Proof.KernelIdeal.StateB
public import proofs.«01_k».proof.Proof.KernelIdeal.StateC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ)

/-! ## What the carried contents are at every point -/

/-- The first grid point. -/
def t0 : Fin cfg0.N := ⟨0, by rw [show cfg0.N = 12 from N_0]; decide⟩
/-- The last grid point. -/
def t11 : Fin cfg0.N := ⟨11, by rw [show cfg0.N = 12 from N_0]; decide⟩

/-- There is a first point. -/
theorem pos0 : 0 < cfg0.N := t0.isLt
/-- There are at least twelve points. -/
theorem pos11 : 11 < cfg0.N := t11.isLt

/-- The codes in the scratch. -/
def Qc (c : Dev nD) : Vec F S256x16384 .bf16 := qAt c t0 (first_of t0 rfl).1 (iblk m c 0 t0)
/-- The scales in the scratch. -/
def Sc (c : Dev nD) : Vec F S256x128 .f32 := sA (iblk m c 0 t0)
/-- The block product of point `t` times the row scales. -/
def Rc (c : Dev nD) (t : Fin cfg0.N) : FVec F S256x512 .f32 := RR (Qc m c) (Sc m c) (iblk m c 1 t)
/-- The running maximum after the point at position `n`. -/
def accA (c : Dev nD) : (n : ℕ) → n < cfg0.N → Vec F S256x128 .f32
  | 0, hn => k0_pay4 (Rc m c ⟨0, hn⟩) (iblk m c 2 ⟨0, hn⟩) k0_pay41
  | n + 1, hn => k0_pay4 (Rc m c ⟨n + 1, hn⟩) (iblk m c 2 ⟨n + 1, hn⟩) (accA c n (Nat.lt_of_succ_lt hn))
/-- The block of the result the point at position `n` computes. -/
def yblk (c : Dev nD) (n : ℕ) (hn : n < cfg0.N) : Vec F S256x512 .f32 := k0_pay3 (Rc m c ⟨n, hn⟩) (iblk m c 2 ⟨n, hn⟩)
/-- The block a result column lies in is a point of the grid. -/
theorem col_lt (j : S256x6144.Idx) : (j 1).val / 512 < cfg0.N := by
  rw [show cfg0.N = 12 from N_0]; have h : (j 1).val < 6144 := (j 1).isLt; omega
/-- The result, all twelve blocks. -/
def Yc (c : Dev nD) : Vec F S256x6144 .f32 := fun j =>
  yblk m c ((j 1).val / 512) (col_lt j) (ix2 (j 0) ⟨(j 1).val % 512, Nat.mod_lt _ (by decide)⟩)
/-- The result block depends on the number of the point only. -/
theorem yblk_congr (c : Dev nD) (n n' : ℕ) (hn : n < cfg0.N) (hn' : n' < cfg0.N) (h : n = n') : yblk m c n hn = yblk m c n' hn' := by subst h; rfl

/-- The state after the first point, from the input blocks. -/
theorem stAt_zero (c : Dev nD) (hn : 0 < cfg0.N) : stAt m c 0 hn = stA c t0 (first_of t0 rfl).1 (first_of t0 rfl).2 (iblk m c 0 t0) (iblk m c 1 t0) (iblk m c 2 t0) (View.canon []) := rfl
/-- The state after a middle point, from the state of the point before. -/
theorem stAt_mid (c : Dev nD) (n : ℕ) (hn : n + 1 < cfg0.N) (h : n + 1 ≠ 11) : stAt m c (n + 1) hn = stB c ⟨n + 1, hn⟩ (mid_of ⟨n + 1, hn⟩ (Nat.succ_ne_zero n) h).1 (mid_of ⟨n + 1, hn⟩ (Nat.succ_ne_zero n) h).2 (iblk m c 0 ⟨n + 1, hn⟩) (iblk m c 1 ⟨n + 1, hn⟩) (iblk m c 2 ⟨n + 1, hn⟩) (stAt m c n (Nat.lt_of_succ_lt hn)) :=
  stAt_B m c ⟨n + 1, hn⟩ (Nat.succ_ne_zero n) h
/-- The state after the last point, from the state of the point before. -/
theorem stAt_last (c : Dev nD) (n : ℕ) (hn : n + 1 < cfg0.N) (h : n + 1 = 11) : stAt m c (n + 1) hn = stC c ⟨n + 1, hn⟩ (last_of ⟨n + 1, hn⟩ h).1 (last_of ⟨n + 1, hn⟩ h).2 (iblk m c 0 ⟨n + 1, hn⟩) (iblk m c 1 ⟨n + 1, hn⟩) (iblk m c 2 ⟨n + 1, hn⟩) (stAt m c n (Nat.lt_of_succ_lt hn)) :=
  stAt_C m c ⟨n + 1, hn⟩ h

/-- The codes and the scales in the scratch are those of the first point, at every point. -/
theorem stAt_qs (c : Dev nD) : ∀ (n : ℕ) (hn : n < cfg0.N), (stAt m c n hn).q = Qc m c ∧ (stAt m c n hn).s = Sc m c
  | 0, hn => by
    rw [stAt_zero, stA_q, stA_s]; exact ⟨rfl, rfl⟩
  | n + 1, hn => by
    have ih := stAt_qs c n (Nat.lt_of_succ_lt hn)
    by_cases h : n + 1 = 11
    · rw [stAt_last m c n hn h, stC_q, stC_s]; exact ih
    · rw [stAt_mid m c n hn h, stB_q, stB_s]; exact ih

/-- The block every point stores. -/
theorem stAt_y (c : Dev nD) (n : ℕ) (hn : n < cfg0.N) : (stAt m c n hn).y = k0_pay2 (Rc m c ⟨n, hn⟩) (iblk m c 2 ⟨n, hn⟩) := by
  cases n with
  | zero => rw [stAt_zero, stA_y]; rfl
  | succ n =>
    obtain ⟨eq, es⟩ := stAt_qs m c n (Nat.lt_of_succ_lt hn)
    by_cases h : n + 1 = 11
    · rw [stAt_last m c n hn h, stC_y, eq, es]; rfl
    · rw [stAt_mid m c n hn h, stB_y, eq, es]; rfl

/-- The running maximum before the last point. -/
theorem stAt_a (c : Dev nD) : ∀ (n : ℕ) (hn : n < cfg0.N), n < 11 → (stAt m c n hn).a = accA m c n hn
  | 0, hn, _ => by rw [stAt_zero, stA_a]; rfl
  | n + 1, hn, h => by
    obtain ⟨eq, es⟩ := stAt_qs m c n (Nat.lt_of_succ_lt hn)
    rw [stAt_mid m c n hn (by omega), stB_a, eq, es, stAt_a c n _ (by omega)]; rfl

/-- Block `t` of the result so far, `X` elsewhere. -/
theorem putB_step (c : Dev nD) (n : ℕ) (hn : n < cfg0.N) (X : Vec F S256x6144 .f32)
    (hX : ∀ j : S256x6144.Idx, (j 1).val < 512 * n → X j = Yc m c j) (j : S256x6144.Idx) (hj : (j 1).val < 512 * (n + 1)) :
    putB n (yblk m c n hn) X j = Yc m c j := by
  unfold putB
  split
  · rename_i h
    unfold Yc
    have e : (j 1).val / 512 = n := by omega
    have e2 : (j 1).val % 512 = (j 1).val - 512 * n := by omega
    rw [yblk_congr m c _ _ (col_lt j) hn e]
    exact congrArg (fun z => yblk m c n hn (ix2 (j 0) z)) (Fin.ext e2.symm)
  · exact hX j (by omega)

/-- The filled part of the result's scratch. -/
theorem stAt_Y (c : Dev nD) : ∀ (n : ℕ) (hn : n < cfg0.N) (j : S256x6144.Idx), (j 1).val < 512 * (n + 1) → (stAt m c n hn).Y j = Yc m c j
  | 0, hn, j, hj => by
    rw [stAt_zero, stA_Y]
    exact putB_step m c 0 hn _ (fun j h => absurd h (by omega)) j hj
  | n + 1, hn, j, hj => by
    obtain ⟨eq, es⟩ := stAt_qs m c n (Nat.lt_of_succ_lt hn)
    by_cases h : n + 1 = 11
    · rw [stAt_last m c n hn h, stC_Y, eq, es]
      exact putB_step m c (n + 1) hn _ (stAt_Y c n (Nat.lt_of_succ_lt hn)) j hj
    · rw [stAt_mid m c n hn h, stB_Y, eq, es]
      exact putB_step m c (n + 1) hn _ (stAt_Y c n (Nat.lt_of_succ_lt hn)) j hj

/-- The codes of the rows, kept to the last point. -/
theorem stAt_x (c : Dev nD) : ∀ (n : ℕ) (hn : n < cfg0.N), (stAt m c n hn).xc = (stAt m c 0 pos0).xc ∧ (stAt m c n hn).xs = (stAt m c 0 pos0).xs
  | 0, hn => ⟨rfl, rfl⟩
  | n + 1, hn => by
    have ih := stAt_x c n (Nat.lt_of_succ_lt hn)
    have k := stAt_keep m c ⟨n + 1, hn⟩ (Nat.succ_ne_zero n)
    exact ⟨k.1.trans ih.1, k.2.trans ih.2⟩

/-- The codes of the rows. -/
theorem stAt_xc (c : Dev nD) (n : ℕ) (hn : n < cfg0.N) (j : S256x16384.Idx) :
    (stAt m c n hn).xc j = FloatOps.fptosi 8 (clip8 (FloatOps.extf .f32 bitsLt_bf16_f32 ((iblk m c 0 t0 : Vec F S256x16384 .bf16) j)) (Sc m c (ix2 (j 0) 0))) := by
  rw [(stAt_x m c n hn).1, stAt_zero]
  exact (stA_codes c t0 _ _ _ _ _ _ j).1
/-- An entry of the codes in the scratch: the input over the scale of its row, rounded and clipped. -/
theorem Qc_at (c : Dev nD) (j : S256x16384.Idx) :
    Qc m c j = FloatOps.truncf .bf16 bitsLt_bf16_f32 (clip8 (FloatOps.extf .f32 bitsLt_bf16_f32 ((iblk m c 0 t0 : Vec F S256x16384 .bf16) j)) (Sc m c (ix2 (j 0) 0))) :=
  (stA_codes c t0 (first_of t0 rfl).1 (first_of t0 rfl).2 (iblk m c 0 t0) (iblk m c 1 t0) (iblk m c 2 t0) (View.canon []) j).2
/-- The scales of the rows. -/
theorem stAt_xs (c : Dev nD) (n : ℕ) (hn : n < cfg0.N) :
    (stAt m c n hn).xs = View.canon [⟨Rect.unit (s := S2x128) ![1, 0] S1x128.size inb_S2x128_S1x128_1_0, k0_pay40 (zeroA (iblk m c 0 t0)) (divA (iblk m c 0 t0))⟩, ⟨Rect.unit (s := S2x128) ![0, 0] S1x128.size inb_S2x128_S1x128_0_0, k0_pay39 (zeroA (iblk m c 0 t0)) (divA (iblk m c 0 t0))⟩] := by
  rw [(stAt_x m c n hn).2, stAt_zero, stA_xs]

/-- The running maximum after all twelve points. -/
def aEnd (c : Dev nD) : Vec F S256x128 .f32 := accA m c 11 pos11

/-- The codes of the result at the last point. -/
theorem stAt_yc (c : Dev nD) (j : S256x6144.Idx) :
    (stAt m c 11 pos11).yc j = FloatOps.fptosi 8 (clip8 (Yc m c j) (k0_pay8 (aEnd m c) (ix2 (j 0) 0))) := by
  have hY := stAt_Y m c 11 pos11 j (j 1).isLt
  obtain ⟨eq, es⟩ := stAt_qs m c 10 (Nat.lt_of_succ_lt pos11)
  have ea := stAt_a m c 10 (Nat.lt_of_succ_lt pos11) (by decide)
  have e := stAt_last m c 10 pos11 rfl
  rw [e] at hY ⊢
  rw [stC_yc, hY, eq, es, ea]; rfl

/-- The scales of the result at the last point. -/
theorem stAt_ys (c : Dev nD) :
    (stAt m c 11 pos11).ys = View.canon [⟨Rect.unit (s := S2x128) ![1, 0] ![1, 128] inb_S2x128_S1x128_1_0, k0_pay7 (aEnd m c)⟩, ⟨Rect.unit (s := S2x128) ![0, 0] ![1, 128] inb_S2x128_S1x128_0_0, k0_pay6 (aEnd m c)⟩] := by
  obtain ⟨eq, es⟩ := stAt_qs m c 10 (Nat.lt_of_succ_lt pos11)
  have ea := stAt_a m c 10 (Nat.lt_of_succ_lt pos11) (by decide)
  rw [stAt_last m c 10 pos11 rfl, stC_ys, eq, es, ea]; rfl

end Cert.KernelIdeal.Hand

end
-- ==== Proof.Value.KernelAt.lean ====
/- The kernel's payloads read element by element over the extended reals. -/
module

public import proofs.«01_k».proof.Proof.Value.Spec
public import proofs.«01_k».proof.Proof.KernelIdeal.StateT
public import Idealize.ShloMosaic.Lib.Pointwise

@[expose] public section

set_option maxRecDepth 16384

noncomputable section

namespace Cert.KernelIdeal.Hand

open Cert.KernelIdeal Cert.KernelIdeal.Gen Cert.Value
open Idealize.ShloMosaic Idealize.ShloMosaic.Tactic

/-- A scaled product times the scale of its weight column. -/
theorem pay1_at (R : Vec Ideal S256x512 .f32) (x2 : Vec Ideal S1x512 .f32) (r : Fin 256) (n : Fin 512) :
    k0_pay1 R x2 (ix2 r n) = (R (ix2 r n) : EReal) * (x2 (ix2 0 n) : EReal) := by
  unfold k0_pay1
  pointwise

/-- The result block, entry by entry: a scaled product times the scale of its weight column. -/
theorem pay2_at (R : Vec Ideal S256x512 .f32) (x2 : Vec Ideal S1x512 .f32) (r : Fin 256) (n : Fin 512) :
    k0_pay2 R x2 (ix2 r n) = (R (ix2 r n) : EReal) * (x2 (ix2 0 n) : EReal) := by
  rw [← pay1_at]; rfl

/-- The block kept in scratch and the block tested for its largest magnitude are the same product. -/
theorem pay3_eq (R : Vec Ideal S256x512 .f32) (x2 : Vec Ideal S1x512 .f32) : k0_pay3 R x2 = k0_pay1 R x2 := by
  unfold k0_pay3; exact shapeCast_id _ _

/-- The running largest magnitude of a lane after a block: the old one against the four entries of the block that fall on that lane. -/
theorem pay4_at (R : Vec Ideal S256x512 .f32) (x2 : Vec Ideal S1x512 .f32) (a : Vec Ideal S256x128 .f32) (r : Fin 256) (l : Fin 128) :
    k0_pay4 R x2 a (ix2 r l) = max (max (max (max (a (ix2 r l) : EReal) (mag (k0_pay1 R x2 (ix2 r ⟨l.val, by omega⟩)))) (mag (k0_pay1 R x2 (ix2 r ⟨128 + l.val, by omega⟩)))) (mag (k0_pay1 R x2 (ix2 r ⟨256 + l.val, by omega⟩)))) (mag (k0_pay1 R x2 (ix2 r ⟨384 + l.val, by omega⟩))) := by
  unfold k0_pay4
  pointwise
  rfl

/-- The scale of a result row, from the largest of the lanes of its running largest magnitudes. -/
theorem pay5_at (a : Vec Ideal S256x128 .f32) (r : Fin 256) :
    k0_pay5 a (ix2 r 0) = scaleE (Finset.univ.fold max (⊥ : EReal) fun l : Fin 128 => a (ix2 r l)) := by
  unfold k0_pay5
  pointwise
  rw [ofBits_ninf]; rfl

/-- The first half of the result scales: the scales of rows 0 to 127. -/
theorem pay6_at (a : Vec Ideal S256x128 .f32) (l : Fin 128) :
    k0_pay6 a (ix2 0 l) = k0_pay5 a (ix2 ⟨l.val, by omega⟩ 0) := by
  unfold k0_pay6
  pointwise

/-- The second half of the result scales: the scales of rows 128 to 255. -/
theorem pay7_at (a : Vec Ideal S256x128 .f32) (l : Fin 128) :
    k0_pay7 a (ix2 0 l) = k0_pay5 a (ix2 ⟨128 + l.val, by omega⟩ 0) := by
  unfold k0_pay7
  pointwise

/-- The scale of a result row, the same on every lane. -/
theorem pay8_at (a : Vec Ideal S256x128 .f32) (r : Fin 256) (l : Fin 128) :
    k0_pay8 a (ix2 r l) = k0_pay5 a (ix2 r 0) := by
  unfold k0_pay8
  pointwise

/-- The scale of an input row, the same on every lane. -/
theorem pay38_at (z : IVec S256x1 1) (d : FVec Ideal S256x1 .f32) (r : Fin 256) (l : Fin 128) :
    k0_pay38 z d (ix2 r l) = k0_pay37 z d (ix2 r 0) := by
  unfold k0_pay38
  pointwise
/-- The first half of the input scales: the scales of rows 0 to 127. -/
theorem pay39_at (z : IVec S256x1 1) (d : FVec Ideal S256x1 .f32) (l : Fin 128) :
    k0_pay39 z d (ix2 0 l) = k0_pay37 z d (ix2 ⟨l.val, by omega⟩ 0) := by
  unfold k0_pay39
  pointwise
/-- The second half of the input scales: the scales of rows 128 to 255. -/
theorem pay40_at (z : IVec S256x1 1) (d : FVec Ideal S256x1 .f32) (l : Fin 128) :
    k0_pay40 z d (ix2 0 l) = k0_pay37 z d (ix2 ⟨128 + l.val, by omega⟩ 0) := by
  unfold k0_pay40
  pointwise

/-- One step of the product: the sum so far plus the rounded product of one tile. -/
theorem pay46_at (q : Vec Ideal S256x1024 .bf16) (w : Vec Ideal S1024x512 .i8) (v : Vec Ideal S256x512 .i32) (r : Fin 256) (n : Fin 512) :
    k0_pay46 q w v (ix2 r n) = v (ix2 r n) + Ideal.fptosi 32 (Ideal.liftRound Ideal.roundHalfEven (∑ k : Fin 1024, (q (ix2 r k) : EReal) * (((w (ix2 k n) : BitVec 8).toInt : ℝ) : EReal))) := by
  unfold k0_pay46
  pointwise
  rfl

/-- An integer sum times the scale of its row. -/
theorem pay65_at (v : Vec Ideal S256x512 .i32) (s : Vec Ideal S256x1 .f32) (r : Fin 256) (n : Fin 512) :
    k0_pay65 v s (ix2 r n) = (((v (ix2 r n) : BitVec 32).toInt : ℝ) : EReal) * (s (ix2 r 0) : EReal) := by
  unfold k0_pay65
  pointwise
  rfl

/-- The scale of an input row, from the largest of the lanes of the running maximum. -/
theorem pay37_at (x : Vec Ideal S256x16384 .bf16) (r : Fin 256) :
    k0_pay37 (zeroA x) (divA x) (ix2 r 0) = scaleE (Finset.univ.fold max (⊥ : EReal) fun l : Fin 128 => amx x 128 (ix2 r l)) := by
  unfold k0_pay37 zeroA divA k0_pay35 k0_pay36 k0_pay34
  pointwise
  rw [ofBits_ninf]; rfl

/-! ## The rows' largest magnitudes -/

/-- The running maximum after one more tile: the old one against the magnitude of that tile. -/
theorem amx_succ_at (x : Vec Ideal S256x16384 .bf16) (n : ℕ) (r : Fin 256) (l : Fin 128) :
    amx x (n + 1) (ix2 r l) = max (amx x n (ix2 r l) : EReal) (mag (x (ix2 r ⟨(128 * n + l.val) % 16384, Nat.mod_lt _ (by decide)⟩))) := rfl

/-- The running maximum is at most a bound exactly when the bound is not negative and bounds the magnitudes seen on that lane. -/
theorem amx_le (x : Vec Ideal S256x16384 .bf16) (r : Fin 256) (l : Fin 128) (b : EReal) : ∀ n : ℕ, n ≤ 128 →
    ((amx x n (ix2 r l) : EReal) ≤ b ↔ 0 ≤ b ∧ ∀ k : Fin 16384, k.val < 128 * n → k.val % 128 = l.val → mag (x (ix2 r k)) ≤ b)
  | 0, _ => by
    have e : (amx x 0 (ix2 r l) : EReal) = 0 := Ideal.ofBits_zero_bf16
    rw [e]
    exact ⟨fun h => ⟨h, fun k hk => absurd hk (by omega)⟩, fun h => h.1⟩
  | n + 1, hn => by
    rw [amx_succ_at, max_le_iff, amx_le x r l b n (by omega)]
    constructor
    · rintro ⟨⟨h0, h1⟩, h2⟩
      refine ⟨h0, fun k hk hl => ?_⟩
      by_cases hk' : k.val < 128 * n
      · exact h1 k hk' hl
      · have e : (⟨(128 * n + l.val) % 16384, Nat.mod_lt _ (by decide)⟩ : Fin 16384) = k := by
          apply Fin.ext; have := k.isLt; have := l.isLt; show (128 * n + l.val) % 16384 = k.val; omega
        rw [e] at h2; exact h2
    · rintro ⟨h0, h1⟩
      refine ⟨⟨h0, fun k hk hl => h1 k (by omega) hl⟩, h1 _ ?_ ?_⟩
      · have := l.isLt; show (128 * n + l.val) % 16384 < _; omega
      · have := l.isLt; show (128 * n + l.val) % 16384 % 128 = _; omega

/-- The scales of the rows. -/
theorem scale_at (x : Vec Ideal S256x16384 .bf16) (r : Fin 256) :
    k0_pay37 (zeroA x) (divA x) (ix2 r 0) = rowScale (fun k : Fin 16384 => (x (ix2 r k) : EReal)) := by
  rw [pay37_at]
  unfold rowScale
  rw [amaxE_of_lanes (by decide) (fun k : Fin 16384 => (x (ix2 r k) : EReal)) _ (fun l b => (amx_le x r l b 128 le_rfl).trans
    ⟨fun h => ⟨h.1, fun k hk => h.2 k k.isLt hk⟩, fun h => ⟨h.1, fun k _ hk => h.2 k hk⟩⟩)]

/-- The scale the first point stores is the scale of the row. -/
theorem sA_at (x : Vec Ideal S256x16384 .bf16) (r : Fin 256) (l : Fin 128) :
    sA x (ix2 r l) = rowScale (fun k : Fin 16384 => (x (ix2 r k) : EReal)) := by
  unfold sA
  rw [pay38_at, scale_at]

/-! ## The integer products -/

/-- The integer sum after `k` tiles is the dot product over the first `1024 * k` columns. -/
theorem chain_at (q : Vec Ideal S256x16384 .bf16) (w : Vec Ideal S16384x512 .i8) (cd : Fin 256 → Fin 16384 → BitVec 8)
    (hq : ∀ r k, (q (ix2 r k) : EReal) = (((cd r k).toInt : ℝ) : EReal)) (r : Fin 256) (n : Fin 512) : ∀ k : ℕ, k ≤ 16 →
    chain q w k (ix2 r n) = BitVec.ofInt 32 (∑ i ∈ Finset.range (1024 * k), (cd r ⟨i % 16384, Nat.mod_lt _ (by decide)⟩).toInt * (w (ix2 ⟨i % 16384, Nat.mod_lt _ (by decide)⟩ n) : BitVec 8).toInt)
  | 0, _ => rfl
  | k + 1, hk => by
    have e : chain q w (k + 1) = k0_pay46 (qt q k) (wt w k) (chain q w k) := rfl
    rw [e, pay46_at, chain_at q w cd hq r n k (by omega), Nat.mul_succ, Finset.sum_range_add, BitVec.ofInt_add]
    congr 1
    rw [Finset.sum_range, ← fptosi_round_dot Finset.univ (fun i : Fin 1024 => cd r ⟨(1024 * k + i.val) % 16384, Nat.mod_lt _ (by decide)⟩) (fun i : Fin 1024 => (w (ix2 ⟨(1024 * k + i.val) % 16384, Nat.mod_lt _ (by decide)⟩ n) : BitVec 8)) (by simp)]
    congr 2
    refine Finset.sum_congr rfl fun i _ => ?_
    rw [← hq]
    rfl

end Cert.KernelIdeal.Hand

end
-- ==== Proof.Value.KernelVal.lean ====
/- The contents of the kernel's buffers as functions of its rows, over the extended reals. -/
module

public import proofs.«01_k».proof.Proof.Value.KernelAt

@[expose] public section

set_option maxRecDepth 16384

noncomputable section

namespace Cert.KernelIdeal.Hand

open Cert.KernelIdeal Cert.KernelIdeal.Gen Cert.Value
open Idealize.ShloMosaic Idealize.ShloMosaic.TcCoe Idealize.ShloMosaic.Tactic

variable (m : (ℓ : Loc nD τ sig) → Buf (Elt Ideal) ℓ) (c : Dev nD)

/-- A row of the activations. -/
def rowK (r : Fin 256) : Fin 16384 → EReal := fun k => (iblk m c 0 t0 : Vec Ideal S256x16384 .bf16) (ix2 r k)
/-- A column of a block of weights. -/
def colK (t : Fin cfg0.N) (n : Fin 512) : Fin 16384 → BitVec 8 := fun k => (iblk m c 1 t : Vec Ideal S16384x512 .i8) (ix2 k n)
/-- The scale of a column of a block. -/
def wsK (t : Fin cfg0.N) (n : Fin 512) : EReal := (iblk m c 2 t : Vec Ideal S1x512 .f32) (ix2 0 n)

/-- The scale in the scratch is the scale of the input row. -/
theorem Sc_at (r : Fin 256) (l : Fin 128) : (Sc m c (ix2 r l) : EReal) = rowScale (rowK m c r) := sA_at _ r l

/-- Rounding and clipping a quotient, as the kernel does it, is the stated clip. -/
theorem clip8_eq (x s : EReal) : (clip8 (F := Ideal) x s : EReal) = clipE (Ideal.div x s) := rfl

/-- The codes in the scratch, as integers. -/
theorem Qc_eq (r : Fin 256) (k : Fin 16384) : (Qc m c (ix2 r k) : EReal) = (((codeE (rowK m c r k) (rowScale (rowK m c r))).toInt : ℝ) : EReal) := by
  rw [Qc_at]
  unfold codeE
  rw [code_spec, ← Sc_at m c r 0]
  rfl

/-- The column of scales, entry by entry. -/
theorem scol_at (s : Vec Ideal S256x128 .f32) (r : Fin 256) : (scol s (ix2 r 0) : EReal) = s (ix2 r 0) := ld_col s r

/-- A block product times the row scales. -/
theorem Rc_at (t : Fin cfg0.N) (r : Fin 256) (n : Fin 512) :
    (Rc m c t (ix2 r n) : EReal) = (((dotE (rowK m c r) (colK m c t n)).toInt : ℝ) : EReal) * rowScale (rowK m c r) := by
  unfold Rc RR
  rw [pay65_at, scol_at, Sc_at, chain_at (Qc m c) (iblk m c 1 t) (fun r k => codeE (rowK m c r k) (rowScale (rowK m c r))) (Qc_eq m c) r n 16 le_rfl]
  exact congrArg (fun z : ℤ => (((BitVec.ofInt 32 z).toInt : ℝ) : EReal) * rowScale (rowK m c r))
    (sum_range_all (fun k => (codeE (rowK m c r k) (rowScale (rowK m c r))).toInt * (colK m c t n k).toInt))

/-- An element of a block of the result. -/
theorem yblk_at (n : ℕ) (hn : n < cfg0.N) (r : Fin 256) (p : Fin 512) :
    (yblk m c n hn (ix2 r p) : EReal) = yE (rowK m c r) (colK m c ⟨n, hn⟩ p) (wsK m c ⟨n, hn⟩ p) := by
  unfold yblk
  rw [pay3_eq, pay1_at, Rc_at]
  rfl

/-- The first payload of the result is the stored one. -/
theorem y_at (n : ℕ) (hn : n < cfg0.N) (r : Fin 256) (p : Fin 512) :
    ((stAt m c n hn).y (ix2 r p) : EReal) = yE (rowK m c r) (colK m c ⟨n, hn⟩ p) (wsK m c ⟨n, hn⟩ p) := by
  rw [stAt_y, pay2_at, Rc_at]
  rfl

/-- An entry of the whole result is the entry of the block it lies in. -/
theorem Yc_blk (n : ℕ) (hn : n < cfg0.N) (r : Fin 256) (p : ℕ) (hp : p < 512) (k : Fin 6144) (hk : k.val = 512 * n + p) :
    (Yc m c (ix2 r k) : EReal) = yblk m c n hn (ix2 r ⟨p, hp⟩) := by
  unfold Yc
  have e : k.val / 512 = n := by omega
  have e2 : k.val % 512 = p := by omega
  rw [yblk_congr m c _ n (col_lt (ix2 r k)) hn e]
  exact congrArg (fun z => yblk m c n hn (ix2 r z)) (Fin.ext e2)

/-- The product of a point's block is the entry of the whole result. -/
theorem pay1_Y (n : ℕ) (hn : n < cfg0.N) (r : Fin 256) (p : ℕ) (hp : p < 512) (k : Fin 6144) (hk : k.val = 512 * n + p) :
    (k0_pay1 (Rc m c ⟨n, hn⟩) (iblk m c 2 ⟨n, hn⟩) (ix2 r ⟨p, hp⟩) : EReal) = Yc m c (ix2 r k) := by
  rw [Yc_blk m c n hn r p hp k hk, yblk, pay3_eq]

/-- One point's step of the running maximum. -/
theorem acc_step (n : ℕ) (hn : n < cfg0.N) (a : Vec Ideal S256x128 .f32) (r : Fin 256) (l : Fin 128) (b : EReal)
    (ih : (a (ix2 r l) : EReal) ≤ b ↔ 0 ≤ b ∧ ∀ k : Fin 6144, k.val < 512 * n → k.val % 128 = l.val → mag (Yc m c (ix2 r k)) ≤ b) :
    (k0_pay4 (Rc m c ⟨n, hn⟩) (iblk m c 2 ⟨n, hn⟩) a (ix2 r l) : EReal) ≤ b ↔
      0 ≤ b ∧ ∀ k : Fin 6144, k.val < 512 * (n + 1) → k.val % 128 = l.val → mag (Yc m c (ix2 r k)) ≤ b := by
  have hl := l.isLt
  have hN : n < 12 := lt_of_lt_of_eq hn N_0
  rw [pay4_at, pay1_Y m c n hn r l.val (by omega) ⟨512 * n + l.val, by omega⟩ rfl,
    pay1_Y m c n hn r (128 + l.val) (by omega) ⟨512 * n + (128 + l.val), by omega⟩ rfl,
    pay1_Y m c n hn r (256 + l.val) (by omega) ⟨512 * n + (256 + l.val), by omega⟩ rfl,
    pay1_Y m c n hn r (384 + l.val) (by omega) ⟨512 * n + (384 + l.val), by omega⟩ rfl,
    max_le_iff, max_le_iff, max_le_iff, max_le_iff, ih]
  constructor
  · rintro ⟨⟨⟨⟨⟨h0, h1⟩, h2⟩, h3⟩, h4⟩, h5⟩
    refine ⟨h0, fun k hk hm => ?_⟩
    have hk' : k.val < 512 * n ∨ k = ⟨512 * n + l.val, by omega⟩ ∨ k = ⟨512 * n + (128 + l.val), by omega⟩ ∨ k = ⟨512 * n + (256 + l.val), by omega⟩ ∨ k = ⟨512 * n + (384 + l.val), by omega⟩ := by
      simp only [Fin.ext_iff]; omega
    rcases hk' with h | h | h | h | h
    · exact h1 k h hm
    · rw [h]; exact h2
    · rw [h]; exact h3
    · rw [h]; exact h4
    · rw [h]; exact h5
  · rintro ⟨h0, h1⟩
    exact ⟨⟨⟨⟨⟨h0, fun k hk hm => h1 k (by omega) hm⟩, h1 _ (by show 512 * n + l.val < _; omega) (by show (512 * n + l.val) % 128 = _; omega)⟩,
      h1 _ (by show 512 * n + (128 + l.val) < _; omega) (by show (512 * n + (128 + l.val)) % 128 = _; omega)⟩,
      h1 _ (by show 512 * n + (256 + l.val) < _; omega) (by show (512 * n + (256 + l.val)) % 128 = _; omega)⟩,
      h1 _ (by show 512 * n + (384 + l.val) < _; omega) (by show (512 * n + (384 + l.val)) % 128 = _; omega)⟩

/-- The running maximum after a point: the largest magnitude so far of every lane. -/
theorem accA_le (r : Fin 256) (l : Fin 128) (b : EReal) : ∀ (n : ℕ) (hn : n < cfg0.N),
    (accA m c n hn (ix2 r l) : EReal) ≤ b ↔ 0 ≤ b ∧ ∀ k : Fin 6144, k.val < 512 * (n + 1) → k.val % 128 = l.val → mag (Yc m c (ix2 r k)) ≤ b
  | 0, hn => acc_step m c 0 hn _ r l b (by
      have e : (k0_pay41 (F := Ideal) (ix2 r l) : EReal) = 0 := Ideal.ofBits_zero_f32
      rw [e]
      exact ⟨fun h => ⟨h, fun k hk => absurd hk (by omega)⟩, fun h => h.1⟩)
  | n + 1, hn => acc_step m c (n + 1) hn _ r l b (accA_le r l b n (Nat.lt_of_succ_lt hn))

/-- A row of the result before its last rounding. -/
def outK (r : Fin 256) : Fin 6144 → EReal := fun k => Yc m c (ix2 r k)

/-- The scales of the result's rows. -/
theorem pay5_end (r : Fin 256) : (k0_pay5 (aEnd m c) (ix2 r 0) : EReal) = rowScale (outK m c r) := by
  rw [pay5_at]
  unfold rowScale
  rw [amaxE_of_lanes (by decide) (outK m c r) (fun l => aEnd m c (ix2 r l)) (fun l b => (accA_le m c r l b 11 pos11).trans
    ⟨fun h => ⟨h.1, fun k hk => h.2 k k.isLt hk⟩, fun h => ⟨h.1, fun k _ hk => h.2 k hk⟩⟩)]

/-- The codes of the result. -/
theorem yc_at (r : Fin 256) (n : Fin 6144) :
    (stAt m c 11 pos11).yc (ix2 r n) = codeE (outK m c r n) (rowScale (outK m c r)) := by
  rw [stAt_yc]
  unfold codeE
  rw [← pay5_end, ← pay8_at (aEnd m c) r 0]
  rfl

/-- The codes of the rows. -/
theorem xc_at (n : ℕ) (hn : n < cfg0.N) (r : Fin 256) (k : Fin 16384) :
    (stAt m c n hn).xc (ix2 r k) = codeE (rowK m c r k) (rowScale (rowK m c r)) := by
  rw [stAt_xc]
  unfold codeE
  rw [← Sc_at m c r 0]
  rfl

/-- The scales of the rows, the first 128 in row 0 and the rest in row 1. -/
theorem xs_at (n : ℕ) (hn : n < cfg0.N) (j : S2x128.Idx) :
    ((stAt m c n hn).xs j : EReal) = rowScale (rowK m c ⟨128 * (j 0).val + (j 1).val, by have h0 : (j 0).val < 2 := (j 0).isLt; have h1 : (j 1).val < 128 := (j 1).isLt; omega⟩) := by
  rw [stAt_xs]
  canon_tiles x h
  · have e : x = ix2 0 (x 1) := (ix2_eta x).symm.trans (congrArg (fun z => ix2 z (x 1)) (Fin.ext (by show (x 0).val = 0; omega)))
    refine (congrArg (k0_pay40 (zeroA (iblk m c 0 t0)) (divA (iblk m c 0 t0))) e).trans ((pay40_at _ _ (x 1)).trans ((scale_at _ _).trans ?_))
    exact congrArg (fun r => rowScale (rowK m c r)) (Fin.ext (by show 128 + (x 1).val = 128 * (j 0).val + (j 1).val; omega))
  · have e : x = ix2 0 (x 1) := (ix2_eta x).symm.trans (congrArg (fun z => ix2 z (x 1)) (Fin.ext (by show (x 0).val = 0; omega)))
    refine (congrArg (k0_pay39 (zeroA (iblk m c 0 t0)) (divA (iblk m c 0 t0))) e).trans ((pay39_at _ _ (x 1)).trans ((scale_at _ _).trans ?_))
    exact congrArg (fun r => rowScale (rowK m c r)) (Fin.ext (by show (x 1).val = 128 * (j 0).val + (j 1).val; omega))

/-- The scales of the result's rows, the same way. -/
theorem ys_at (j : S2x128.Idx) :
    ((stAt m c 11 pos11).ys j : EReal) = rowScale (outK m c ⟨128 * (j 0).val + (j 1).val, by have h0 : (j 0).val < 2 := (j 0).isLt; have h1 : (j 1).val < 128 := (j 1).isLt; omega⟩) := by
  rw [stAt_ys]
  canon_tiles x h
  · have e : x = ix2 0 (x 1) := (ix2_eta x).symm.trans (congrArg (fun z => ix2 z (x 1)) (Fin.ext (by show (x 0).val = 0; omega)))
    refine (congrArg (k0_pay7 (aEnd m c)) e).trans ((pay7_at _ (x 1)).trans ((pay5_end m c _).trans ?_))
    exact congrArg (fun r => rowScale (outK m c r)) (Fin.ext (by show 128 + (x 1).val = 128 * (j 0).val + (j 1).val; omega))
  · have e : x = ix2 0 (x 1) := (ix2_eta x).symm.trans (congrArg (fun z => ix2 z (x 1)) (Fin.ext (by show (x 0).val = 0; omega)))
    refine (congrArg (k0_pay6 (aEnd m c)) e).trans ((pay6_at _ (x 1)).trans ((pay5_end m c _).trans ?_))
    exact congrArg (fun r => rowScale (outK m c r)) (Fin.ext (by show (x 1).val = 128 * (j 0).val + (j 1).val; omega))

end Cert.KernelIdeal.Hand

end
-- ==== Proof.Value.KernelIn.lean ====
/- The kernel's input blocks as elements of its argument arrays. -/
module

public import proofs.«01_k».proof.Proof.KernelIdeal.StateT
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- The block of each window at a point: the input stays, the weights, their scales and the result move along the columns. -/
theorem idx0 : ∀ t : Fin cfg0.N, (win0_0.index t = ![0, 0] ∧ win0_1.index t = ![0, t.val]) ∧ win0_2.index t = ![0, t.val] ∧ win0_3.index t = ![0, t.val] := by decide +kernel

/-- An entry of the weight block is the entry of the weight argument in the column of that block. -/
theorem in1_at (t : Fin cfg0.N) (k : Fin 16384) (n : Fin 512) (j : Fin 6144) (hj : j.val = 512 * t.val + n.val) :
    (iblk m c 1 t : Vec F S16384x512 .i8) (ix2 k n) = (m ((c : Thread nD τ).loc main_arg1) : Vec F S16384x6144 .i8) (ix2 k j) := by
  have h := (idx0 t).1.2
  blk_ext [iblk, V_main_arg1, h]

/-- The column scales as the kernel finds them: laid out as one row. -/
theorem V_main_v1 : V m c main_v1 = shapeCast (s := S6144) S1x6144 (m ((c : Thread nD τ).loc main_arg2)) shapeCasts_S6144_S1x6144 := by
  show StableHlo.after hostOps0 (fun b => m (c, b)) _ = _
  unfold hostOps0
  after_results
  rfl

/-- The activations as the kernel finds them: the two leading axes as one. -/
theorem V_main_v0 : V m c main_v0 = shapeCast (s := S2x128x16384) S256x16384 (m ((c : Thread nD τ).loc main_arg0)) shapeCasts_S2x128x16384_S256x16384 := by
  show StableHlo.after hostOps0 (fun b => m (c, b)) _ = _
  unfold hostOps0
  after_results
  rfl

/-- An entry of the weight scale block is the entry of the weight scale argument in the column of that block. -/
theorem in2_at (t : Fin cfg0.N) (n : Fin 512) (j : Fin 6144) (hj : j.val = 512 * t.val + n.val) :
    (iblk m c 2 t : Vec F S1x512 .f32) (ix2 0 n) = (m ((c : Thread nD τ).loc main_arg2) : Vec F S6144 .f32) (ix1 j) := by
  have h := (idx0 t).2.1
  have e : (((cfg0.win 2).blk t).view.emb (ix2 0 n : S1x512.Idx) : S1x6144.Idx) = ix2 0 j := by
    blk_ext [h]
  show (V m c main_v1 : Vec F S1x6144 .f32) (((cfg0.win 2).blk t).view.emb (ix2 0 n : S1x512.Idx)) = _
  rw [e, V_main_v1]
  generalize (m ((c : Thread nD τ).loc main_arg2) : Vec F S6144 .f32) = X
  show shapeCast (s := S6144) S1x6144 X shapeCasts_S6144_S1x6144 (ix2 0 j) = X (ix1 j)
  pointwise

/-- An entry of the input block is the entry of the input argument, with its two leading axes read as one. -/
theorem in0_at (r : Fin 256) (k : Fin 16384) (b : Fin 2) (s : Fin 128) (hr : r.val = 128 * b.val + s.val) :
    (iblk m c 0 t0 : Vec F S256x16384 .bf16) (ix2 r k) = (m ((c : Thread nD τ).loc main_arg0) : Vec F S2x128x16384 .bf16) (ix3 b s k) := by
  have h := (idx0 t0).1.1
  have e : (((cfg0.win 0).blk t0).view.emb (ix2 r k : S256x16384.Idx) : S256x16384.Idx) = ix2 r k := by
    blk_ext [h]
  show (V m c main_v0 : Vec F S256x16384 .bf16) (((cfg0.win 0).blk t0).view.emb (ix2 r k : S256x16384.Idx)) = _
  rw [e, V_main_v0]
  generalize (m ((c : Thread nD τ).loc main_arg0) : Vec F S2x128x16384 .bf16) = X
  show shapeCast (s := S2x128x16384) S256x16384 X shapeCasts_S2x128x16384_S256x16384 (ix2 r k) = X (ix3 b s k)
  pointwise
  refine congrArg X ?_
  have hb := b.isLt
  have hs := s.isLt
  have e1 : (⟨r.val / 128, by omega⟩ : Fin 2) = b := Fin.ext (by show r.val / 128 = b.val; omega)
  have e2 : (⟨r.val % 128, by omega⟩ : Fin 128) = s := Fin.ext (by show r.val % 128 = s.val; omega)
  exact (congrArg (fun z => ix3 z _ k) e1).trans (congrArg (fun z => ix3 b z k) e2)

end Cert.KernelIdeal.Hand

end
-- ==== Proof.Value.KernelOut.lean ====
/- The kernel's output arrays after its run. -/
module

public import proofs.«01_k».proof.Proof.KernelIdeal.StateT
public import proofs.«01_k».proof.Proof.KernelIdeal.Track
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (c : Dev nD)

/-- Output array 4 holds what the last point leaves. -/
theorem arr4 : (dats m 0 c).arrAt 4 cfg0.N = (stAt m c 11 pos11).xc := by
  refine (dats m 0 c).arrAt_eq_of_after_last 4 t11 (by decide +kernel) _ fun j => ?_
  blk_simp
  rw [after0_4]
  rfl

/-- Output array 5 holds what the last point leaves. -/
theorem arr5 : (dats m 0 c).arrAt 5 cfg0.N = (stAt m c 11 pos11).xs := by
  refine (dats m 0 c).arrAt_eq_of_after_last 5 t11 (by decide +kernel) _ fun j => ?_
  blk_simp
  rw [after0_5]
  rfl

/-- Output array 6 holds what the last point leaves. -/
theorem arr6 : (dats m 0 c).arrAt 6 cfg0.N = (stAt m c 11 pos11).yc := by
  refine (dats m 0 c).arrAt_eq_of_after_last 6 t11 (by decide +kernel) _ fun j => ?_
  blk_simp
  rw [after0_6]
  rfl

/-- Output array 7 holds what the last point leaves. -/
theorem arr7 : (dats m 0 c).arrAt 7 cfg0.N = (stAt m c 11 pos11).ys := by
  refine (dats m 0 c).arrAt_eq_of_after_last 7 t11 (by decide +kernel) _ fun j => ?_
  blk_simp
  rw [after0_7]
  rfl

/-- A result entry depends only on the numbers of the point, the row and the column. -/
theorem y_congr (n n' : ℕ) (hn : n < cfg0.N) (hn' : n' < cfg0.N) (h : n' = n) (r r' : Fin 256) (hr : r'.val = r.val) (p p' : Fin 512) (hp : p'.val = p.val) :
    (stAt m c n hn).y (ix2 r p) = (stAt m c n' hn').y (ix2 r' p') := by
  subst h
  have e1 : r' = r := Fin.ext hr
  have e2 : p' = p := Fin.ext hp
  subst e1 e2
  rfl

/-- The result window moves along the columns, one block a point. -/
theorem idx3 : ∀ t : Fin cfg0.N, win0_3.index t = ![0, t.val] := by decide +kernel

/-- The result's array: block `t` is what point `t` leaves. -/
theorem arr3 : (dats m 0 c).arrAt 3 cfg0.N = fun j => (stAt m c ((j 1).val / 512) (col_lt j)).y (ix2 (j 0) ⟨(j 1).val % 512, Nat.mod_lt _ (by decide)⟩) := by
  refine (dats m 0 c).arrAt_eq_of_covers 3 _ (by decide +kernel) fun t hf y => ?_
  blk_simp
  rw [after0_3]
  have h := idx3 t
  have hy : (y 1).val < 512 := (y 1).isLt
  have h1 : win0_3.index t 1 = t.val := by rw [h]; rfl
  have h0 : (((win0_3.blk t).view.emb y 0 : Fin 256)).val = (y 0).val := by
    blk_simp [h]
  refine Eq.trans ?_ (y_congr m c t.val _ t.isLt _ ?_ (y 0) _ h0 (y 1) _ ?_)
  · exact congrArg _ (ix2_eta y).symm
  · show (win0_3.index t 1 * 512 + (y 1).val) / 512 = t.val
    rw [h1]; omega
  · show (win0_3.index t 1 * 512 + (y 1).val) % 512 = (y 1).val
    rw [h1]; omega

end Cert.KernelIdeal.Hand

end
-- ==== Proof.Value.KernelRes.lean ====
/- The kernel's results, element by element, over the extended reals. -/
module

public import proofs.«01_k».proof.Proof.Value.KernelVal
public import proofs.«01_k».proof.Proof.Value.KernelIn
public import proofs.«01_k».proof.Proof.Value.KernelOut

@[expose] public section

set_option maxRecDepth 16384

noncomputable section

namespace Cert.KernelIdeal.Hand

open Cert.KernelIdeal Cert.KernelIdeal.Gen Cert.Value
open Idealize.ShloMosaic Idealize.ShloMosaic.TcCoe Idealize.ShloMosaic.Tactic

variable (m : (ℓ : Loc nD τ sig) → Buf (Elt Ideal) ℓ) (c : Dev nD)

/-- A row of the activations, as an argument array. -/
def argRow (b : Fin 2) (s : Fin 128) : Fin 16384 → EReal := fun k => (m ((c : Thread nD τ).loc main_arg0) : Vec Ideal S2x128x16384 .bf16) (ix3 b s k)
/-- The weights, as an argument array. -/
def argW : Fin 16384 → Fin 6144 → BitVec 8 := fun k n => (m ((c : Thread nD τ).loc main_arg1) : Vec Ideal S16384x6144 .i8) (ix2 k n)
/-- The column scales, as an argument array. -/
def argS : Fin 6144 → EReal := fun n => (m ((c : Thread nD τ).loc main_arg2) : Vec Ideal S6144 .f32) (ix1 n)

/-- A row the kernel reads is a row of the input argument. -/
theorem rowK_eq (r : Fin 256) (b : Fin 2) (s : Fin 128) (hr : r.val = 128 * b.val + s.val) : rowK m c r = argRow m c b s :=
  funext fun k => in0_at m c r k b s hr

/-- A weight column the kernel reads is a column of the weight argument. -/
theorem colK_eq (t : Fin cfg0.N) (p : Fin 512) (n : Fin 6144) (hn : n.val = 512 * t.val + p.val) : colK m c t p = fun k => argW m c k n :=
  funext fun k => in1_at m c t k p n hn

/-- A weight scale the kernel reads is an entry of the weight scale argument. -/
theorem wsK_eq (t : Fin cfg0.N) (p : Fin 512) (n : Fin 6144) (hn : n.val = 512 * t.val + p.val) : wsK m c t p = argS m c n :=
  in2_at m c t p n hn

/-- A result entry of the kernel is the entry of the row stated on the arguments. -/
theorem yrow_at (r : Fin 256) (b : Fin 2) (s : Fin 128) (hr : r.val = 128 * b.val + s.val) (n : Fin 6144) (t : Fin cfg0.N) (p : Fin 512) (hn : n.val = 512 * t.val + p.val) :
    yE (rowK m c r) (colK m c t p) (wsK m c t p) = yRow (argRow m c b s) (argW m c) (argS m c) n := by
  rw [rowK_eq m c r b s hr, colK_eq m c t p n hn, wsK_eq m c t p n hn]
  rfl

/-- A row of the result before its last rounding. -/
theorem outK_eq (r : Fin 256) (b : Fin 2) (s : Fin 128) (hr : r.val = 128 * b.val + s.val) :
    outK m c r = yRow (argRow m c b s) (argW m c) (argS m c) := by
  funext n
  have hn := n.isLt
  refine (Yc_blk m c (n.val / 512) (by rw [show cfg0.N = 12 from N_0]; omega) r (n.val % 512) (Nat.mod_lt _ (by decide)) n (by omega)).trans ?_
  rw [yblk_at]
  exact yrow_at m c r b s hr n _ _ (by show n.val = 512 * (n.val / 512) + n.val % 512; omega)

/-- Splitting the rows' axis in two: the result's arrays. -/
theorem split3 {A : EltTy} (X : Vec Ideal S256x6144 A) (b : Fin 2) (s : Fin 128) (n : Fin 6144) :
    shapeCast (s := S256x6144) S2x128x6144 X shapeCasts_S256x6144_S2x128x6144 (ix3 b s n) = X (ix2 ⟨128 * b.val + s.val, by omega⟩ n) := by
  pointwise
  exact congrArg (fun z => X (ix2 z n)) (Fin.ext (by show b.val * 128 + s.val = 128 * b.val + s.val; omega))

/-- Splitting the rows' axis in two: the activations' codes. -/
theorem split4 {A : EltTy} (X : Vec Ideal S256x16384 A) (b : Fin 2) (s : Fin 128) (n : Fin 16384) :
    shapeCast (s := S256x16384) S2x128x16384 X shapeCasts_S256x16384_S2x128x16384 (ix3 b s n) = X (ix2 ⟨128 * b.val + s.val, by omega⟩ n) := by
  pointwise
  exact congrArg (fun z => X (ix2 z n)) (Fin.ext (by show b.val * 128 + s.val = 128 * b.val + s.val; omega))

/-- The result. -/
theorem res_y (b : Fin 2) (s : Fin 128) (n : Fin 6144) :
    (shapeCast (s := S256x6144) S2x128x6144 ((dats m 0 c).arrAt 3 cfg0.N : Vec Ideal S256x6144 .bf16) shapeCasts_S256x6144_S2x128x6144 (ix3 b s n) : EReal) = yRow (argRow m c b s) (argW m c) (argS m c) n := by
  have hn := n.isLt
  rw [split3, arr3]
  refine (y_at m c (n.val / 512) _ _ _).trans ?_
  exact yrow_at m c _ b s rfl n _ _ (by show n.val = 512 * (n.val / 512) + n.val % 512; omega)

/-- The codes of the activations. -/
theorem res_xc (b : Fin 2) (s : Fin 128) (k : Fin 16384) :
    shapeCast (s := S256x16384) S2x128x16384 ((dats m 0 c).arrAt 4 cfg0.N : Vec Ideal S256x16384 .i8) shapeCasts_S256x16384_S2x128x16384 (ix3 b s k) = codeE (argRow m c b s k) (rowScale (argRow m c b s)) := by
  rw [split4, arr4, xc_at, rowK_eq m c _ b s rfl]

/-- The scales of the activations. -/
theorem res_xs (b : Fin 2) (s : Fin 128) :
    ((dats m 0 c).arrAt 5 cfg0.N : Vec Ideal S2x128 .f32) (ix2 b s) = rowScale (argRow m c b s) := by
  rw [arr5]
  refine (xs_at m c 11 pos11 (ix2 b s)).trans ?_
  rw [rowK_eq m c _ b s rfl]

/-- The codes of the result. -/
theorem res_yc (b : Fin 2) (s : Fin 128) (n : Fin 6144) :
    shapeCast (s := S256x6144) S2x128x6144 ((dats m 0 c).arrAt 6 cfg0.N : Vec Ideal S256x6144 .i8) shapeCasts_S256x6144_S2x128x6144 (ix3 b s n) = codeE (yRow (argRow m c b s) (argW m c) (argS m c) n) (rowScale (yRow (argRow m c b s) (argW m c) (argS m c))) := by
  rw [split3, arr6, yc_at, outK_eq m c _ b s rfl]

/-- The scales of the result. -/
theorem res_ys (b : Fin 2) (s : Fin 128) :
    ((dats m 0 c).arrAt 7 cfg0.N : Vec Ideal S2x128 .f32) (ix2 b s) = rowScale (yRow (argRow m c b s) (argW m c) (argS m c)) := by
  rw [arr7]
  refine (ys_at m c (ix2 b s)).trans ?_
  rw [outK_eq m c _ b s rfl]

end Cert.KernelIdeal.Hand

end
-- ==== Proof.Value.KernelTail.lean ====
/- The kernel's results: the host lines after its region. -/
module

public import proofs.«01_k».proof.Proof.KernelIdeal.StateT
public import proofs.«01_k».proof.Proof.KernelIdeal.Track
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg) (c : Dev nD)

/-- Different windows have different arrays. -/
theorem arr_inj : Function.Injective (Pipeline.arrRef spec0) := by decide +kernel

/-- The result returned is the array of window 3 in its three-axis shape. -/
theorem tail_v3 : Pipeline.afterTail₀ cfgs (dats m) 0 (V0 m) [hostOps1] c main_v3 = shapeCast (s := S256x6144) S2x128x6144 ((dats m 0 c).arrAt 3 cfg0.N) shapeCasts_S256x6144_S2x128x6144 := by
  unfold Pipeline.afterTail₀
  show StableHlo.after hostOps1 _ _ = _
  unfold hostOps1
  after_results
  exact congrArg (fun X : Vec F S256x6144 .bf16 => shapeCast (s := S256x6144) S2x128x6144 X shapeCasts_S256x6144_S2x128x6144) (Pipeline.withArrays_arr spec0 arr_inj c (V0 m c) (fun w => (dats m 0 c).arrAt w (cfgs 0).N) 3)

/-- The input codes returned are the array of window 4 in its three-axis shape. -/
theorem tail_v4 : Pipeline.afterTail₀ cfgs (dats m) 0 (V0 m) [hostOps1] c main_v4 = shapeCast (s := S256x16384) S2x128x16384 ((dats m 0 c).arrAt 4 cfg0.N) shapeCasts_S256x16384_S2x128x16384 := by
  unfold Pipeline.afterTail₀
  show StableHlo.after hostOps1 _ _ = _
  unfold hostOps1
  after_results
  exact congrArg (fun X : Vec F S256x16384 .i8 => shapeCast (s := S256x16384) S2x128x16384 X shapeCasts_S256x16384_S2x128x16384) (Pipeline.withArrays_arr spec0 arr_inj c (V0 m c) (fun w => (dats m 0 c).arrAt w (cfgs 0).N) 4)

/-- The result codes returned are the array of window 6 in its three-axis shape. -/
theorem tail_v5 : Pipeline.afterTail₀ cfgs (dats m) 0 (V0 m) [hostOps1] c main_v5 = shapeCast (s := S256x6144) S2x128x6144 ((dats m 0 c).arrAt 6 cfg0.N) shapeCasts_S256x6144_S2x128x6144 := by
  unfold Pipeline.afterTail₀
  show StableHlo.after hostOps1 _ _ = _
  unfold hostOps1
  after_results
  exact congrArg (fun X : Vec F S256x6144 .i8 => shapeCast (s := S256x6144) S2x128x6144 X shapeCasts_S256x6144_S2x128x6144) (Pipeline.withArrays_arr spec0 arr_inj c (V0 m c) (fun w => (dats m 0 c).arrAt w (cfgs 0).N) 6)

/-- The run, with every result named by the region's output arrays. -/
theorem run_val : θ_run defs (onTc (τ := τ) (main (F := F))) ⟨m, fun _ => 0, ρ⟩ (fun r => ∀ c : Dev nD,
      r.2.mem ((c.tc : Thread nD τ).loc main_v3) = shapeCast (s := S256x6144) S2x128x6144 ((dats m 0 c).arrAt 3 cfg0.N) shapeCasts_S256x6144_S2x128x6144
      ∧ r.2.mem ((c.tc : Thread nD τ).loc main_v4) = shapeCast (s := S256x16384) S2x128x16384 ((dats m 0 c).arrAt 4 cfg0.N) shapeCasts_S256x16384_S2x128x16384
      ∧ r.2.mem ((c.tc : Thread nD τ).loc main_v2_2) = (dats m 0 c).arrAt 5 cfg0.N
      ∧ r.2.mem ((c.tc : Thread nD τ).loc main_v5) = shapeCast (s := S256x6144) S2x128x6144 ((dats m 0 c).arrAt 6 cfg0.N) shapeCasts_S256x6144_S2x128x6144
      ∧ r.2.mem ((c.tc : Thread nD τ).loc main_v2_4) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h.1 c).2 main_v3 (Pipeline.mem_restRefs_of main_v3 (by decide) (by decide))).trans (tail_v3 m c),
      ((h.1 c).2 main_v4 (Pipeline.mem_restRefs_of main_v4 (by decide) (by decide))).trans (tail_v4 m c),
      (h.1 c).1 5,
      ((h.1 c).2 main_v5 (Pipeline.mem_restRefs_of main_v5 (by decide) (by decide))).trans (tail_v5 m c),
      (h.1 c).1 7,
      (h.2 c).1, (h.2 c).2.1, (h.2 c).2.2⟩)
    (θ_run_and (run_main m ρ) (frame_of m ρ (dats m) (A_eq m) (run_main m ρ)))

end Cert.KernelIdeal.Hand

end
-- ==== Proof.Value.RefA.lean ====
/- The reference's payloads read element by element over the extended reals. -/
module

public import proofs.«01_k».proof.Proof.Value.Spec
public import proofs.«01_k».proof.Proof.Gen.ReferenceIdeal.Value
public import Idealize.ShloMosaic.Lib.Pointwise
public import Idealize.ShloMosaic.Lib.WordSum

@[expose] public section

set_option maxRecDepth 16384

noncomputable section

namespace Cert.ReferenceIdeal.Hand

open Cert.ReferenceIdeal Cert.ReferenceIdeal.Gen Cert.Value
open Idealize.ShloMosaic Idealize.ShloMosaic.Tactic

/-- A row of the activations. -/
def rowR (a0 : Vec Ideal S2x128x16384 .bf16) (b : Fin 2) (s : Fin 128) : Fin 16384 → EReal := fun k => a0 (ix3 b s k)

/-- The scale of every row from its largest magnitude. -/
theorem sel_at (M : FVec Ideal S2x128 .f32) (b : Fin 2) (s : Fin 128) :
    (k0_pay1 M (Scalar.ofBits (F := Ideal) .f32 0x00000000#32) (ix2 b s) : EReal) = scaleE (M (ix2 b s)) := by
  have h : (select (cmpf (F := Ideal) .oeq M (broadcast S2x128 (Scalar.ofBits (F := Ideal) .f32 0x00000000#32))) (broadcast S2x128 (Scalar.ofBits (F := Ideal) .f32 0x3F800000#32)) (divf M (broadcast S2x128 (Scalar.ofBits (F := Ideal) .f32 0x42FE0000#32))) (ix2 b s) : EReal) = scaleE (M (ix2 b s)) := by
    pointwise
    rfl
  exact h

/-- The largest magnitude of a row of the activations. -/
theorem mrX_at (X : FVec Ideal S2x128x16384 .f32) (b : Fin 2) (s : Fin 128) :
    (multiReduction (F := Ideal) .maximumf [2] S2x128 (absf X) 0xFF800000#32 reduces_S2x128x16384_S2x128 (.inl rfl) rfl (ix2 b s) : EReal) = amaxE fun k : Fin 16384 => (X (ix3 b s k) : EReal) := by
  rw [← fold_mag, ← ofBits_ninf]
  pointwise
  rfl

/-- The largest magnitude of a row of the result. -/
theorem mrY_at (X : FVec Ideal S2x128x6144 .f32) (b : Fin 2) (s : Fin 128) :
    (multiReduction (F := Ideal) .maximumf [2] S2x128 (absf X) 0xFF800000#32 reduces_S2x128x6144_S2x128 (.inl rfl) rfl (ix2 b s) : EReal) = amaxE fun k : Fin 6144 => (X (ix3 b s k) : EReal) := by
  rw [← fold_mag, ← ofBits_ninf]
  pointwise
  rfl

/-- The scales of the rows. -/
theorem xs_at (a0 : Vec Ideal S2x128x16384 .bf16) (b : Fin 2) (s : Fin 128) :
    (k0_pay4 a0 (ix2 b s) : EReal) = rowScale (rowR a0 b s) :=
  (sel_at (multiReduction (F := Ideal) .maximumf [2] S2x128 (absf (k0_pay3 a0)) 0xFF800000#32 reduces_S2x128x16384_S2x128 (.inl rfl) rfl) b s).trans
    (congrArg scaleE (mrX_at (k0_pay3 a0) b s))

/-- An input entry over the scale of its row. -/
theorem qX_at (X : FVec Ideal S2x128x16384 .f32) (S : FVec Ideal S2x128 .f32) (b : Fin 2) (s : Fin 128) (k : Fin 16384) :
    (divf (F := Ideal) (φ := .f32) X (broadcastTo S2x128x16384 (shapeCast S2x128x1 S shapeCasts_S2x128_S2x128x1) broadcasts_S2x128x1_S2x128x16384) (ix3 b s k) : EReal) = Ideal.div (X (ix3 b s k)) (S (ix2 b s)) := by
  pointwise

/-- A result entry over the scale of its row. -/
theorem qY_at (X : FVec Ideal S2x128x6144 .f32) (S : FVec Ideal S2x128 .f32) (b : Fin 2) (s : Fin 128) (k : Fin 6144) :
    (divf (F := Ideal) (φ := .f32) X (broadcastTo S2x128x6144 (shapeCast S2x128x1 S shapeCasts_S2x128_S2x128x1) broadcasts_S2x128x1_S2x128x6144) (ix3 b s k) : EReal) = Ideal.div (X (ix3 b s k)) (S (ix2 b s)) := by
  pointwise

/-- The input the reference scales is the input row. -/
theorem pay3_at (a0 : Vec Ideal S2x128x16384 .bf16) (b : Fin 2) (s : Fin 128) (k : Fin 16384) :
    (k0_pay3 a0 (ix3 b s k) : EReal) = rowR a0 b s k := rfl

/-- An input entry over the scale of its row, rounded, clipped and converted. -/
theorem qXc_at (X : FVec Ideal S2x128x16384 .f32) (S : FVec Ideal S2x128 .f32) (b : Fin 2) (s : Fin 128) (k : Fin 16384) :
    (fptosi (F := Ideal) 8 (minimumf (broadcast S2x128x16384 (Scalar.ofBits (F := Ideal) .f32 0x42FE0000#32)) (maximumf (broadcast S2x128x16384 (Scalar.ofBits (F := Ideal) .f32 0xC2FE0000#32)) (roundeven (divf (F := Ideal) (φ := .f32) X (broadcastTo S2x128x16384 (shapeCast S2x128x1 S shapeCasts_S2x128_S2x128x1) broadcasts_S2x128x1_S2x128x16384))))) (ix3 b s k)) = codeE (X (ix3 b s k)) (S (ix2 b s)) :=
  congrArg (fun z => Ideal.fptosi 8 (clipE z)) (qX_at X S b s k)

/-- The reference's input codes, written out. -/
theorem pay5_eq (a0 : Vec Ideal S2x128x16384 .bf16) :
    k0_pay5 a0 = (fptosi (F := Ideal) 8 (minimumf (broadcast S2x128x16384 (Scalar.ofBits (F := Ideal) .f32 0x42FE0000#32)) (maximumf (broadcast S2x128x16384 (Scalar.ofBits (F := Ideal) .f32 0xC2FE0000#32)) (roundeven (divf (F := Ideal) (φ := .f32) (k0_pay3 a0) (broadcastTo S2x128x16384 (shapeCast S2x128x1 (k0_pay4 a0) shapeCasts_S2x128_S2x128x1) broadcasts_S2x128x1_S2x128x16384)))))) := by
  unfold k0_pay5
  rfl

/-- The codes of the rows. -/
theorem xc_at (a0 : Vec Ideal S2x128x16384 .bf16) (b : Fin 2) (s : Fin 128) (k : Fin 16384) :
    k0_pay5 a0 (ix3 b s k) = codeE (rowR a0 b s k) (rowScale (rowR a0 b s)) := by
  rw [pay5_eq, qXc_at, xs_at, pay3_at]

/-- The codes of the result from the result and the largest magnitudes of its rows. -/
theorem yc_at (Y : FVec Ideal S2x128x6144 .f32) (M : FVec Ideal S2x128 .f32) (b : Fin 2) (s : Fin 128) (n : Fin 6144) :
    k0_pay2 Y M (Scalar.ofBits (F := Ideal) .f32 0x00000000#32) (ix3 b s n) = codeE (Y (ix3 b s n)) (scaleE (M (ix2 b s))) :=
  (congrArg (fun z => Ideal.fptosi 8 (clipE z)) (qY_at Y (k0_pay1 M (Scalar.ofBits (F := Ideal) .f32 0x00000000#32)) b s n)).trans (congrArg (codeE (Y (ix3 b s n))) (sel_at M b s))

end Cert.ReferenceIdeal.Hand

end
-- ==== Proof.Value.RefB.lean ====
/- The reference's payloads read element by element over the extended reals. -/
module

public import proofs.«01_k».proof.Proof.Value.Spec
public import proofs.«01_k».proof.Proof.Gen.ReferenceIdeal.Value
public import Idealize.ShloMosaic.Lib.Pointwise
public import Idealize.ShloMosaic.Lib.WordSum

@[expose] public section

set_option maxRecDepth 16384

noncomputable section

namespace Cert.ReferenceIdeal.Hand

open Cert.ReferenceIdeal Cert.ReferenceIdeal.Gen Cert.Value
open Idealize.ShloMosaic Idealize.ShloMosaic.Tactic

/-- An integer reduction over the chunks is the sum over the chunks. -/
theorem sum_drop (f : IVec S2x128x32x6144 32) (b : Fin 2) (s : Fin 128) (n : Fin 6144) :
    multiReductionI .add [2] S2x128x6144 f 0#32 reduces_S2x128x32x6144_S2x128x6144 rfl (ix3 b s n) = ∑ ch : Fin 32, f (ix4 b s ch n) := by
  refine (congrFun (multiReductionI_eq_reduceFold (s := S2x128x32x6144) (t := S2x128x6144) (axes := [2]) .add f (0#32) reduces_S2x128x32x6144_S2x128x6144 rfl) (ix3 b s n)).trans ?_
  show (reduceFold reduces_S2x128x32x6144_S2x128x6144 (· + ·) (0#32 : BitVec 32) f (ix3 b s n)) = _
  rw [reduceFold_add_eq_sum, show (0#32 : BitVec 32) = 0 from rfl, zero_add]
  rw [Shape.Reduces.sum_filter_drop_single]
  refine Finset.sum_congr rfl fun ch _ => ?_
  congr 1
  funext a
  fin_cases a <;> rfl

/-- The 32 chunks of 512 together. -/
theorem sum_chunks (g : Fin 16384 → ℤ) : ∑ ch : Fin 32, BitVec.ofInt 32 (∑ k : Fin 512, g ⟨512 * ch.val + k.val, by omega⟩) = BitVec.ofInt 32 (∑ k, g k) := by
  have h : ∀ n : ℕ, ∑ ch ∈ Finset.range n, BitVec.ofInt 32 (∑ k : Fin 512, g ⟨(512 * ch + k.val) % 16384, Nat.mod_lt _ (by decide)⟩)
      = BitVec.ofInt 32 (∑ i ∈ Finset.range (512 * n), g ⟨i % 16384, Nat.mod_lt _ (by decide)⟩) := by
    intro n
    induction n with
    | zero => rfl
    | succ n ih =>
      rw [Finset.sum_range_succ, ih, Nat.mul_succ, Finset.sum_range_add, BitVec.ofInt_add]
      congr 2
      trace_state
  rw [← sum_range_all g]
  refine Eq.trans ?_ (h 32)
  rw [Finset.sum_range]
  refine Finset.sum_congr rfl fun ch _ => congrArg _ (Finset.sum_congr rfl fun k _ => congrArg g (Fin.ext ?_))
  have := ch.isLt; have := k.isLt
  show 512 * ch.val + k.val = (512 * ch.val + k.val) % 16384
  omega

end Cert.ReferenceIdeal.Hand

end
-- ==== Proof.Value.RefC.lean ====
/- The reference's payloads read element by element over the extended reals. -/
module

public import proofs.«01_k».proof.Proof.Value.Spec
public import proofs.«01_k».proof.Proof.Gen.ReferenceIdeal.Value
public import Idealize.ShloMosaic.Lib.Pointwise
public import proofs.«01_k».proof.Proof.Value.RefA
public import proofs.«01_k».proof.Proof.Value.RefB

@[expose] public section

set_option maxRecDepth 16384

noncomputable section

namespace Cert.ReferenceIdeal.Hand

open Cert.ReferenceIdeal Cert.ReferenceIdeal.Gen Cert.Value
open Idealize.ShloMosaic Idealize.ShloMosaic.Tactic

/-- The chunked products of the codes with the weights. -/
def prodR (q : IVec S2x128x16384 8) (a1 : IVec S16384x6144 8) : IVec S2x128x32x6144 32 :=
  fptosi (F := Ideal) 32 (transpose S2x128x32x6144 [2, 3, 0, 1] (matmul (F := Ideal) dot_S32x512x6144_S2x128x32x512_S32x6144x2x128_1_3_2_01_0_2 none (shapeCast S32x512x6144 (sitofp (F := Ideal) .bf16 a1) shapeCasts_S16384x6144_S32x512x6144) (shapeCast S2x128x32x512 (sitofp (F := Ideal) .bf16 q) shapeCasts_S2x128x16384_S2x128x32x512) (constant S32x6144x2x128 .f32 0x00000000#32)) transposes_S32x6144x2x128_p2_3_0_1_S2x128x32x6144)

/-- The product of one chunk of 512 columns in the reference. -/
theorem prodR_at (q : IVec S2x128x16384 8) (a1 : IVec S16384x6144 8) (b : Fin 2) (s : Fin 128) (ch : Fin 32) (n : Fin 6144) :
    prodR q a1 (ix4 b s ch n) = Ideal.fptosi 32 (∑ k : Fin 512, (((a1 (ix2 ⟨512 * ch.val + k.val, by omega⟩ n)).toInt : ℝ) : EReal) * (((q (ix3 b s ⟨512 * ch.val + k.val, by omega⟩)).toInt : ℝ) : EReal)) := by
  unfold prodR
  pointwise
  refine congrArg (Ideal.fptosi 32) (Finset.sum_congr rfl fun k _ => ?_)
  have e : (⟨ch.val * 512 + k.val, by omega⟩ : Fin 16384) = ⟨512 * ch.val + k.val, by omega⟩ := Fin.ext (by show ch.val * 512 + k.val = 512 * ch.val + k.val; omega)
  rw [← e]
  rfl

/-- An integer sum times the scale of its row times the scale of its column. -/
theorem mulY_at (D : IVec S2x128x6144 32) (S : FVec Ideal S2x128 .f32) (a2 : Vec Ideal S6144 .f32) (b : Fin 2) (s : Fin 128) (n : Fin 6144) :
    (mulf (F := Ideal) (φ := .f32) (mulf (sitofp .f32 D) (broadcastTo S2x128x6144 (shapeCast S2x128x1 S shapeCasts_S2x128_S2x128x1) broadcasts_S2x128x1_S2x128x6144)) (broadcastTo S2x128x6144 (shapeCast S1x1x6144 a2 shapeCasts_S6144_S1x1x6144) broadcasts_S1x1x6144_S2x128x6144) (ix3 b s n) : EReal)
      = (((D (ix3 b s n)).toInt : ℝ) : EReal) * (S (ix2 b s) : EReal) * (a2 (ix1 n) : EReal) := by
  pointwise
  rfl

/-- The reference's result: the integer sum over all chunks times the two scales. -/
theorem pay6_at (a0 : Vec Ideal S2x128x16384 .bf16) (a1 : Vec Ideal S16384x6144 .i8) (a2 : Vec Ideal S6144 .f32) (b : Fin 2) (s : Fin 128) (n : Fin 6144) :
    (k0_pay6 a0 a1 a2 (ix3 b s n) : EReal) = (((multiReductionI .add [2] S2x128x6144 (prodR (k0_pay5 a0) a1) 0#32 reduces_S2x128x32x6144_S2x128x6144 rfl (ix3 b s n)).toInt : ℝ) : EReal) * (k0_pay4 a0 (ix2 b s) : EReal) * (a2 (ix1 n) : EReal) :=
  mulY_at (multiReductionI .add [2] S2x128x6144 (prodR (k0_pay5 a0) a1) 0#32 reduces_S2x128x32x6144_S2x128x6144 rfl) (k0_pay4 a0) a2 b s n

/-- A row of the result before its last rounding. -/
theorem y_at (a0 : Vec Ideal S2x128x16384 .bf16) (a1 : Vec Ideal S16384x6144 .i8) (a2 : Vec Ideal S6144 .f32) (b : Fin 2) (s : Fin 128) (n : Fin 6144) :
    (k0_pay6 a0 a1 a2 (ix3 b s n) : EReal) = yRow (rowR a0 b s) (fun k n => a1 (ix2 k n)) (fun n => a2 (ix1 n)) n := by
  rw [pay6_at, sum_drop, xs_at]
  unfold yRow yE dotE
  refine congrArg (fun z : BitVec 32 => ((z.toInt : ℝ) : EReal) * rowScale (rowR a0 b s) * (a2 (ix1 n) : EReal)) ?_
  rw [← sum_chunks]
  refine Finset.sum_congr rfl fun ch _ => ?_
  rw [prodR_at, fptosi_dot Finset.univ (fun k : Fin 512 => (a1 (ix2 ⟨512 * ch.val + k.val, by omega⟩ n) : BitVec 8)) (fun k : Fin 512 => k0_pay5 a0 (ix3 b s ⟨512 * ch.val + k.val, by omega⟩)) (by simp)]
  refine congrArg _ (Finset.sum_congr rfl fun k _ => ?_)
  rw [xc_at, mul_comm]

end Cert.ReferenceIdeal.Hand

end
-- ==== Proof.Value.RefRes.lean ====
/- The reference's results, element by element, over the extended reals. -/
module

public import proofs.«01_k».proof.Proof.Value.RefC

@[expose] public section

set_option maxRecDepth 16384

noncomputable section

namespace Cert.ReferenceIdeal.Hand

open Cert.ReferenceIdeal Cert.ReferenceIdeal.Gen Cert.Value
open Idealize.ShloMosaic Idealize.ShloMosaic.Tactic

variable (a0 : Vec Ideal S2x128x16384 .bf16) (a1 : Vec Ideal S16384x6144 .i8) (a2 : Vec Ideal S6144 .f32)

/-- A row of the result before its last rounding. -/
def rowY (b : Fin 2) (s : Fin 128) : Fin 6144 → EReal := yRow (rowR a0 b s) (fun k n => a1 (ix2 k n)) (fun n => a2 (ix1 n))

/-- The largest magnitude of every row of the result. -/
theorem pay9_at (b : Fin 2) (s : Fin 128) : (k0_pay9 a0 a1 a2 (ix2 b s) : EReal) = amaxE (rowY a0 a1 a2 b s) := by
  unfold k0_pay9
  rw [View.ld_unit_zero (by decide), View.ld_unit_zero (by decide), View.ld_unit_zero (by decide)]
  refine (mrY_at (k0_pay6 a0 a1 a2) b s).trans (congrArg amaxE (funext fun n => ?_))
  exact y_at a0 a1 a2 b s n

/-- The reference result, entry by entry. -/
theorem G3_at (b : Fin 2) (s : Fin 128) (n : Fin 6144) : (Value.G3 a0 a1 a2 (ix3 b s n) : EReal) = rowY a0 a1 a2 b s n :=
  y_at a0 a1 a2 b s n

/-- The reference input codes, entry by entry. -/
theorem G4_at (b : Fin 2) (s : Fin 128) (k : Fin 16384) : Value.G4 a0 a1 a2 (ix3 b s k) = codeE (rowR a0 b s k) (rowScale (rowR a0 b s)) :=
  xc_at a0 b s k

/-- The reference input scales, entry by entry. -/
theorem G5_at (b : Fin 2) (s : Fin 128) : (Value.G5 a0 a1 a2 (ix2 b s) : EReal) = rowScale (rowR a0 b s) :=
  xs_at a0 b s

/-- The reference result codes, entry by entry. -/
theorem G6_at (b : Fin 2) (s : Fin 128) (n : Fin 6144) : Value.G6 a0 a1 a2 (ix3 b s n) = codeE (rowY a0 a1 a2 b s n) (rowScale (rowY a0 a1 a2 b s)) := by
  refine (yc_at (k0_pay6 a0 a1 a2) (k0_pay9 a0 a1 a2) b s n).trans ?_
  rw [pay9_at, y_at]
  rfl

/-- The reference result scales, entry by entry. -/
theorem G7_at (b : Fin 2) (s : Fin 128) : (Value.G7 a0 a1 a2 (ix2 b s) : EReal) = rowScale (rowY a0 a1 a2 b s) := by
  refine (sel_at (k0_pay9 a0 a1 a2) b s).trans ?_
  rw [pay9_at]
  rfl

end Cert.ReferenceIdeal.Hand

end
-- ==== Proof.Value.Final.lean ====
/- The two programs' results are equal. -/
module

public import proofs.«01_k».proof.Defs
public import proofs.«01_k».proof.Proof.Gen.KernelIdeal
public import proofs.«01_k».proof.Proof.Gen.ReferenceIdeal
public import proofs.«01_k».proof.Proof.Value.KernelRes
public import proofs.«01_k».proof.Proof.Value.KernelTail
public import proofs.«01_k».proof.Proof.Value.RefRes
public import Idealize.ShloMosaic.Lib.Claim

@[expose] public section

set_option maxRecDepth 16384

noncomputable section

namespace Cert.Value

open Idealize.ShloMosaic Idealize.ShloMosaic.TcCoe Idealize.ShloMosaic.Tactic

/-- Two arrays of rank 3 that agree at every triple of coordinates are equal. -/
theorem ext3 {A B C : ℕ} {α : Type} (X Y : (⟨3, ![A, B, C]⟩ : Shape).Idx → α) (h : ∀ a b c, X (ix3 a b c) = Y (ix3 a b c)) : X = Y := by
  funext j
  rw [← ix3_eta j]
  exact h _ _ _

/-- Two arrays of rank 2 that agree at every pair of coordinates are equal. -/
theorem ext2 {A B : ℕ} {α : Type} (X Y : (⟨2, ![A, B]⟩ : Shape).Idx → α) (h : ∀ a b, X (ix2 a b) = Y (ix2 a b)) : X = Y := by
  funext j
  rw [← ix2_eta j]
  exact h _ _

/-- From the same arguments the kernel and the reference both run and end with the same five results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, _, Cert.KernelIdeal.Hand.run_val m g, ?_⟩
  refine (θ_run _ _ _).mono (fun r h c => ?_) (Cert.ReferenceIdeal.Value.run m' g')
  obtain ⟨h0, h1, h2, h3, h4, h5, h6, h7⟩ := h c
  obtain ⟨e0, e1, e2⟩ := hagree c
  rw [e0, e1, e2] at h0 h1 h2 h3 h4
  refine ⟨h0.trans ?_, h1.trans ?_, h2.trans ?_, h3.trans ?_, h4.trans ?_, h5, h6, h7⟩
  · exact ext3 (A := 2) (B := 128) (C := 6144) _ _ fun b s n => (Cert.ReferenceIdeal.Hand.G3_at _ _ _ b s n).trans (Cert.KernelIdeal.Hand.res_y m c b s n).symm
  · exact ext3 (A := 2) (B := 128) (C := 16384) _ _ fun b s n => (Cert.ReferenceIdeal.Hand.G4_at _ _ _ b s n).trans (Cert.KernelIdeal.Hand.res_xc m c b s n).symm
  · exact ext2 (A := 2) (B := 128) _ _ fun b s => (Cert.ReferenceIdeal.Hand.G5_at _ _ _ b s).trans (Cert.KernelIdeal.Hand.res_xs m c b s).symm
  · exact ext3 (A := 2) (B := 128) (C := 6144) _ _ fun b s n => (Cert.ReferenceIdeal.Hand.G6_at _ _ _ b s n).trans (Cert.KernelIdeal.Hand.res_yc m c b s n).symm
  · exact ext2 (A := 2) (B := 128) _ _ fun b s => (Cert.ReferenceIdeal.Hand.G7_at _ _ _ b s).trans (Cert.KernelIdeal.Hand.res_ys m c b s).symm

end Cert.Value

end
-- ==== Proof.lean ====
/- The certificate's claims, from the frames and from the equation of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Track
public import proofs.«01_k».proof.Proof.KernelIdeal.Track
public import proofs.«01_k».proof.Proof.Value.Final

@[expose] public section

noncomputable section

namespace Cert.Proof

open Idealize.ShloMosaic Idealize.SL.Sem Cert.Kernel

/-- The claims hold. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial,
  Cert.Value.algebraic⟩

end Cert.Proof

end
